-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_finite_scores : Cert.Pre_finite_scores.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
-- ==== Pre_finite_qk.lean ====
abbrev S16x4x2048x192 : Shape := ⟨4, ![16, 4, 2048, 192]⟩
abbrev S16x4x2048x128 : Shape := ⟨4, ![16, 4, 2048, 128]⟩
abbrev S4x128 : Shape := ⟨2, ![4, 128]⟩
abbrev S_ : Shape := ⟨0, ![]⟩

class Facts : Prop where
  bcast_S_S16x4x2048x192 : S_.BroadcastsInDim S16x4x2048x192 (![] : Fin 0 → Fin S16x4x2048x192.rank)
  reducesTo_S16x4x2048x192_S_d0_1_2_3 : S16x4x2048x192.ReducesTo [0, 1, 2, 3] S_
  h_S_ : 0 < S_.numel

variable [Facts]

def fn {F : FTy → Type} [FloatOps F] (main_arg0 : FVec F S16x4x2048x192 .f32) (main_arg1 : FVec F S16x4x2048x192 .f32) (main_arg2 : FVec F S16x4x2048x128 .f32) (main_arg3 : FVec F S4x128 .f32) : IVec S_ 1 :=
  let main_v0 : FVec F S16x4x2048x192 .f32 := Host.absf main_arg0
  let main_cst : FVec F S_ .f32 := constant S_ .f32 0x7F800000#32
  let main_v1 : FVec F S16x4x2048x192 .f32 := broadcastInDim S16x4x2048x192 ![] bcast_S_S16x4x2048x192 main_cst
  let main_v2 : IVec S16x4x2048x192 1 := cmpf .olt main_v0 main_v1
  let main_c : IVec S_ 1 := constantI S_ 1 1#1
  let main_v3 : IVec S_ 1 := (fun x v => Host.reduce IntOp.andi x v reducesTo_S16x4x2048x192_S_d0_1_2_3 h_S_) main_v2 main_c
  let main_v4 : FVec F S16x4x2048x192 .f32 := Host.absf main_arg1
  let main_cst_0 : FVec F S_ .f32 := constant S_ .f32 0x7F800000#32
  let main_v5 : FVec F S16x4x2048x192 .f32 := broadcastInDim S16x4x2048x192 ![] bcast_S_S16x4x2048x192 main_cst_0
  let main_v6 : IVec S16x4x2048x192 1 := cmpf .olt main_v4 main_v5
  let main_c_1 : IVec S_ 1 := constantI S_ 1 1#1
  let main_v7 : IVec S_ 1 := (fun x v => Host.reduce IntOp.andi x v reducesTo_S16x4x2048x192_S_d0_1_2_3 h_S_) main_v6 main_c_1
  let main_v8 : IVec S_ 1 := andi main_v3 main_v7
  main_v8
-- ==== Pre_finite_scores.lean ====
abbrev S16x2048x1024 : Shape := ⟨3, ![16, 2048, 1024]⟩
abbrev S16x2048x512 : Shape := ⟨3, ![16, 2048, 512]⟩
abbrev S16x256x4x128 : Shape := ⟨4, ![16, 256, 4, 128]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩

class Facts : Prop where
  bcast_S_S16x256x4x128 : S_.BroadcastsInDim S16x256x4x128 (![] : Fin 0 → Fin S16x256x4x128.rank)
  reducesTo_S16x256x4x128_S_d0_1_2_3 : S16x256x4x128.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S16x2048x1024 .f32) (main_arg1 : FVec F S16x2048x512 .f32) (main_arg2 : FVec F S16x2048x512 .f32) (main_arg3 : FVec F S16x256x4x128 .f32) (main_arg4 : FVec F S16x256x4x128 .f32) (main_arg5 : FVec F S1024x1024 .f32) (main_arg6 : FVec F S1024 .f32) (main_arg7 : FVec F S1024x512 .f32) (main_arg8 : FVec F S128 .f32) (main_arg9 : FVec F S512x1024 .f32) (main_arg10 : FVec F S1024 .f32) (main_arg11 : FVec F S1024x4096 .f32) (main_arg12 : FVec F S4096x1024 .f32) : IVec S_ 1 :=
  let main_v0 : FVec F S16x256x4x128 .f32 := Host.absf main_arg3
  let main_cst : FVec F S_ .f32 := constant S_ .f32 0x7F800000#32
  let main_v1 : FVec F S16x256x4x128 .f32 := broadcastInDim S16x256x4x128 ![] bcast_S_S16x256x4x128 main_cst
  let main_v2 : IVec S16x256x4x128 1 := cmpf .olt main_v0 main_v1
  let main_c : IVec S_ 1 := constantI S_ 1 1#1
  let main_v3 : IVec S_ 1 := (fun x v => Host.reduce IntOp.andi x v reducesTo_S16x256x4x128_S_d0_1_2_3 h_S_) main_v2 main_c
  let main_v4 : FVec F S128 .f32 := Host.absf main_arg8
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S16x4x2048x192 : Shape := ⟨4, ![16, 4, 2048, 192]⟩
abbrev S16x4x2048x128 : Shape := ⟨4, ![16, 4, 2048, 128]⟩
abbrev S4x128 : Shape := ⟨2, ![4, 128]⟩
abbrev S16x4x8x256x128 : Shape := ⟨5, ![16, 4, 8, 256, 128]⟩
abbrev S16x8x4x128x256 : Shape := ⟨5, ![16, 8, 4, 128, 256]⟩
abbrev S65536x256 : Shape := ⟨2, ![65536, 256]⟩
abbrev S_ : Shape := ⟨0, ![]⟩
abbrev S16x4x2048x64 : Shape := ⟨4, ![16, 4, 2048, 64]⟩
abbrev S16x4x2048x32 : Shape := ⟨4, ![16, 4, 2048, 32]⟩
abbrev S16x4x2048x256 : Shape := ⟨4, ![16, 4, 2048, 256]⟩
abbrev S16x2048x4x256 : Shape := ⟨4, ![16, 2048, 4, 256]⟩
abbrev S32768x1024 : Shape := ⟨2, ![32768, 1024]⟩
abbrev S512x1 : Shape := ⟨2, ![512, 1]⟩
abbrev S32768x512 : Shape := ⟨2, ![32768, 512]⟩
abbrev S1024x1024 : Shape := ⟨2, ![1024, 1024]⟩
abbrev S2048x1024 : Shape := ⟨2, ![2048, 1024]⟩
abbrev S4096x256 : Shape := ⟨2, ![4096, 256]⟩
abbrev S1024x512 : Shape := ⟨2, ![1024, 512]⟩
abbrev S4x144x256 : Shape := ⟨3, ![4, 144, 256]⟩
abbrev S16x256 : Shape := ⟨2, ![16, 256]⟩
abbrev S1x256 : Shape := ⟨2, ![1, 256]⟩
abbrev S256x256 : Shape := ⟨2, ![256, 256]⟩
abbrev S256 : Shape := ⟨1, ![256]⟩
abbrev S128x256 : Shape := ⟨2, ![128, 256]⟩
abbrev S144x256 : Shape := ⟨2, ![144, 256]⟩
abbrev S1x144x256 : Shape := ⟨3, ![1, 144, 256]⟩
abbrev S128x1 : Shape := ⟨2, ![128, 1]⟩
abbrev S256x128 : Shape := ⟨2, ![256, 128]⟩

abbrev nBuf : Space → Nat
  | .hbm => 39
  | .vmem => 10
  | .smem => 0
  | _ => 0

abbrev bufTy : (tb : Table) → Fin (tcTables nBuf tb) → BufTy
  | .hbm, ⟨0, _⟩ => ⟨S16x4x2048x192, .f32⟩
  | .hbm, ⟨1, _⟩ => ⟨S16x4x2048x192, .f32⟩
  | .hbm, ⟨2, _⟩ => ⟨S16x4x2048x128, .f32⟩
  | .hbm, ⟨3, _⟩ => ⟨S4x128, .f32⟩
  | .hbm, ⟨4, _⟩ => ⟨S16x4x8x256x128, .f32⟩
  | .hbm, ⟨5, _⟩ => ⟨S16x8x4x128x256, .f32⟩
  | .hbm, ⟨6, _⟩ => ⟨S65536x256, .f32⟩
  | .hbm, ⟨7, _⟩ => ⟨S65536x256, .bf16⟩
  | .hbm, ⟨8, _⟩ => ⟨S_, .f32⟩
  | .hbm, ⟨9, _⟩ => ⟨S16x4x2048x192, .f32⟩
  | .hbm, ⟨10, _⟩ => ⟨S16x4x2048x192, .f32⟩
  | .hbm, ⟨11, _⟩ => ⟨S_, .f32⟩
  | .hbm, ⟨12, _⟩ => ⟨S_, .f32⟩
  | .hbm, ⟨13, _⟩ => ⟨S16x4x2048x192, .f32⟩
  | .hbm, ⟨14, _⟩ => ⟨S16x4x2048x192, .f32⟩
  | .hbm, ⟨15, _⟩ => ⟨S16x4x2048x128, .f32⟩
  | .hbm, ⟨16, _⟩ => ⟨S16x4x2048x64, .f32⟩
  | .hbm, ⟨17, _⟩ => ⟨S_, .f32⟩
  | .hbm, ⟨18, _⟩ => ⟨S16x4x2048x32, .f32⟩
  | .hbm, ⟨19, _⟩ => ⟨S16x4x2048x32, .f32⟩
  | .hbm, ⟨20, _⟩ => ⟨S16x4x2048x32, .f32⟩
  | .hbm, ⟨21, _⟩ => ⟨S16x4x2048x128, .f32⟩
  | .hbm, ⟨22, _⟩ => ⟨S16x4x2048x256, .f32⟩
  | .hbm, ⟨23, _⟩ => ⟨S16x2048x4x256, .f32⟩
  | .hbm, ⟨24, _⟩ => ⟨S32768x1024, .f32⟩
  | .hbm, ⟨25, _⟩ => ⟨S32768x1024, .bf16⟩
  | .hbm, ⟨26, _⟩ => ⟨S16x4x2048x128, .f32⟩
  | .hbm, ⟨27, _⟩ => ⟨S16x4x2048x64, .f32⟩
  | .hbm, ⟨28, _⟩ => ⟨S_, .f32⟩
  | .hbm, ⟨29, _⟩ => ⟨S16x4x2048x32, .f32⟩
  | .hbm, ⟨30, _⟩ => ⟨S16x4x2048x32, .f32⟩
  | .hbm, ⟨31, _⟩ => ⟨S16x4x2048x32, .f32⟩
  | .hbm, ⟨32, _⟩ => ⟨S16x4x2048x128, .f32⟩
  | .hbm, ⟨33, _⟩ => ⟨S16x4x2048x256, .f32⟩
  | .hbm, ⟨34, _⟩ => ⟨S16x2048x4x256, .f32⟩
  | .hbm, ⟨35, _⟩ => ⟨S32768x1024, .f32⟩
  | .hbm, ⟨36, _⟩ => ⟨S32768x1024, .bf16⟩
  | .hbm, ⟨37, _⟩ => ⟨S512x1, .f32⟩
  | .hbm, ⟨38, _⟩ => ⟨S32768x512, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4096x256, .bf16⟩
  | .local _ .vmem, ⟨5, _⟩ => ⟨S4096x256, .bf16⟩
  | .local _ .vmem, ⟨6, _⟩ => ⟨S512x1, .f32⟩
  | .local _ .vmem, ⟨7, _⟩ => ⟨S1024x512, .bf16⟩
  | .local _ .vmem, ⟨8, _⟩ => ⟨S1024x512, .bf16⟩
  | .local _ .vmem, ⟨9, _⟩ => ⟨S4x144x256, .f32⟩
  | _, _ => ⟨S16x4x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

@[reducible] def k0_t1_loop (i : grid0.Coords) : Scf.Loop 32 :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_8 : BitVec 32 := 1#32
  ⟨c0_i32_7, v15, c1_i32_8⟩
def k0_mult1 (i : grid0.Coords) (k0_t1 : Fin (k0_t1_loop i).trips) : BitVec 32 :=
  let c0_i32_7 : BitVec 32 := 0#32
  let c1_i32_8 : BitVec 32 := 1#32
  let arg8 : BitVec 32 := Scf.iv c0_i32_7 c1_i32_8 k0_t1
  let c256_i32_446 : BitVec 32 := 256#32
  let v1009 : BitVec 32 := Scalar.muli arg8 c256_i32_446
  v1009
def k0_off1 (i : grid0.Coords) (k0_t1 : Fin (k0_t1_loop i).trips) : Fin 2 → Nat :=
  let c0_i32_7 : BitVec 32 := 0#32
  let c1_i32_8 : BitVec 32 := 1#32
  let arg8 : BitVec 32 := Scf.iv c0_i32_7 c1_i32_8 k0_t1
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off2 (i : grid0.Coords) (k0_t1 : Fin (k0_t1_loop i).trips) : Fin 2 → Nat :=
  let c0_i32_7 : BitVec 32 := 0#32
  let c1_i32_8 : BitVec 32 := 1#32
  let arg8 : BitVec 32 := Scf.iv c0_i32_7 c1_i32_8 k0_t1
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off3 (i : grid0.Coords) (k0_t1 : Fin (k0_t1_loop i).trips) : Fin 2 → Nat :=
  let c0_i32_7 : BitVec 32 := 0#32
  let c1_i32_8 : BitVec 32 := 1#32
  let arg8 : BitVec 32 := Scf.iv c0_i32_7 c1_i32_8 k0_t1
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off4 (i : grid0.Coords) (k0_t1 : Fin (k0_t1_loop i).trips) : Fin 2 → Nat :=
  let c0_i32_7 : BitVec 32 := 0#32
  let c1_i32_8 : BitVec 32 := 1#32
  let arg8 : BitVec 32 := Scf.iv c0_i32_7 c1_i32_8 k0_t1
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult2 (i : grid0.Coords) (k0_t1 : Fin (k0_t1_loop i).trips) : BitVec 32 :=
  let c0_i32_7 : BitVec 32 := 0#32
  let c1_i32_8 : BitVec 32 := 1#32
  let arg8 : BitVec 32 := Scf.iv c0_i32_7 c1_i32_8 k0_t1
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off5 (i : grid0.Coords) (k0_t1 : Fin (k0_t1_loop i).trips) (c0_i32_465 : BitVec 32) : Fin 2 → Nat :=
  let c0_i32_7 : BitVec 32 := 0#32
  let c1_i32_8 : BitVec 32 := 1#32
  let arg8 : BitVec 32 := Scf.iv c0_i32_7 c1_i32_8 k0_t1
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult3 (i : grid0.Coords) (k0_t1 : Fin (k0_t1_loop i).trips) : BitVec 32 :=
  let c0_i32_7 : BitVec 32 := 0#32
  let c1_i32_8 : BitVec 32 := 1#32
  let arg8 : BitVec 32 := Scf.iv c0_i32_7 c1_i32_8 k0_t1
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult4 (i : grid0.Coords) (k0_t1 : Fin (k0_t1_loop i).trips) : BitVec 32 :=
  let c0_i32_7 : BitVec 32 := 0#32
  let c1_i32_8 : BitVec 32 := 1#32
  let arg8 : BitVec 32 := Scf.iv c0_i32_7 c1_i32_8 k0_t1
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult5 (i : grid0.Coords) (k0_t1 : Fin (k0_t1_loop i).trips) : BitVec 32 :=
  let c0_i32_7 : BitVec 32 := 0#32
  let c1_i32_8 : BitVec 32 := 1#32
  let arg8 : BitVec 32 := Scf.iv c0_i32_7 c1_i32_8 k0_t1
  let c512_i32_447 : BitVec 32 := 512#32
  let v1011 : BitVec 32 := Scalar.muli arg8 c512_i32_447
  let c384_i32_495 : BitVec 32 := 384#32
  let v1117 : BitVec 32 := Scalar.addi v1011 c384_i32_495
  v1117
@[reducible] def k0_t2_loop (i : grid0.Coords) : Scf.Loop 32 :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let v12 : BitVec 32 := Scalar.addi c0_i32_7 v11
  let c1_i32_9 : BitVec 32 := 1#32
  ⟨v15, v12, c1_i32_9⟩
def k0_mult6 (i : grid0.Coords) (k0_t2 : Fin (k0_t2_loop i).trips) : BitVec 32 :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c256_i32_446 : BitVec 32 := 256#32
  let v1009 : BitVec 32 := Scalar.muli arg8 c256_i32_446
  v1009
def k0_off6 (i : grid0.Coords) (k0_t2 : Fin (k0_t2_loop i).trips) : Fin 2 → Nat :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off7 (i : grid0.Coords) (k0_t2 : Fin (k0_t2_loop i).trips) : Fin 2 → Nat :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off8 (i : grid0.Coords) (k0_t2 : Fin (k0_t2_loop i).trips) : Fin 2 → Nat :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off9 (i : grid0.Coords) (k0_t2 : Fin (k0_t2_loop i).trips) : Fin 2 → Nat :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult7 (i : grid0.Coords) (k0_t2 : Fin (k0_t2_loop i).trips) : BitVec 32 :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off10 (i : grid0.Coords) (k0_t2 : Fin (k0_t2_loop i).trips) (c0_i32_465 : BitVec 32) : Fin 2 → Nat :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult8 (i : grid0.Coords) (k0_t2 : Fin (k0_t2_loop i).trips) : BitVec 32 :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult9 (i : grid0.Coords) (k0_t2 : Fin (k0_t2_loop i).trips) : BitVec 32 :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult10 (i : grid0.Coords) (k0_t2 : Fin (k0_t2_loop i).trips) : BitVec 32 :=
  let c0_i32_7 : BitVec 32 := 0#32
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let v11 : BitVec 32 := Scalar.subi v2 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg8 : BitVec 32 := Scf.iv v15 c1_i32_9 k0_t2
  let c512_i32_447 : BitVec 32 := 512#32
  let v1011 : BitVec 32 := Scalar.muli arg8 c512_i32_447
  let c384_i32_495 : BitVec 32 := 384#32
  let v1117 : BitVec 32 := Scalar.addi v1011 c384_i32_495
  v1117
def k0_mult11 (i : grid0.Coords) : BitVec 32 :=
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let c256_i32 : BitVec 32 := 256#32
  let v18 : BitVec 32 := Scalar.muli v2 c256_i32
  v18
def k0_off11 (i : grid0.Coords) (c0_i32 : BitVec 32) : Fin 2 → Nat :=
  let arg1 : BitVec 32 := BitVec.ofNat 32 (i 1).val
  let c4_i32 : BitVec 32 := 4#32
  let v1 : BitVec 32 := Scalar.muli arg1 c4_i32
  let v2 : BitVec 32 := Scalar.addi v1 c0_i32
  let c256_i32 : BitVec 32 := 256#32
  let v18 : BitVec 32 := Scalar.muli v2 c256_i32
  let v19 : BitVec 32 := v18
  let v21 : Index := Scalar.indexCast v19
  let c0_10 : Index := 0#32
  ![v21.toNat, 0]
def k0_off12 (i : grid0.Coords) (c0_i32 : BitVec 32) : Fin 2 → Nat :=
  let arg1 : BitVec 32 := BitVec.ofNat 32 (i 1).val
  let c4_i32 : BitVec 32 := 4#32
  let v1 : BitVec 32 := Scalar.muli arg1 c4_i32
  let v2 : BitVec 32 := Scalar.addi v1 c0_i32
  let c256_i32 : BitVec 32 := 256#32
  let v18 : BitVec 32 := Scalar.muli v2 c256_i32
  let v19 : BitVec 32 := v18
  let v27 : Index := Scalar.indexCast v19
  let c256 : Index := 256#32
  ![v27.toNat, 256]
def k0_off13 (i : grid0.Coords) (c0_i32 : BitVec 32) : Fin 2 → Nat :=
  let arg1 : BitVec 32 := BitVec.ofNat 32 (i 1).val
  let c4_i32 : BitVec 32 := 4#32
  let v1 : BitVec 32 := Scalar.muli arg1 c4_i32
  let v2 : BitVec 32 := Scalar.addi v1 c0_i32
  let c256_i32 : BitVec 32 := 256#32
  let v18 : BitVec 32 := Scalar.muli v2 c256_i32
  let v19 : BitVec 32 := v18
  let v33 : Index := Scalar.indexCast v19
  let c512 : Index := 512#32
  ![v33.toNat, 512]
def k0_off14 (i : grid0.Coords) (c0_i32 : BitVec 32) : Fin 2 → Nat :=
  let arg1 : BitVec 32 := BitVec.ofNat 32 (i 1).val
  let c4_i32 : BitVec 32 := 4#32
  let v1 : BitVec 32 := Scalar.muli arg1 c4_i32
  let v2 : BitVec 32 := Scalar.addi v1 c0_i32
  let c256_i32 : BitVec 32 := 256#32
  let v18 : BitVec 32 := Scalar.muli v2 c256_i32
  let v19 : BitVec 32 := v18
  let v39 : Index := Scalar.indexCast v19
  let c768 : Index := 768#32
  ![v39.toNat, 768]
def k0_mult12 (i : grid0.Coords) : BitVec 32 :=
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let c512_i32 : BitVec 32 := 512#32
  let v20 : BitVec 32 := Scalar.muli v2 c512_i32
  let c0_i32_25 : BitVec 32 := 0#32
  let v59 : BitVec 32 := Scalar.addi v20 c0_i32_25
  v59
def k0_off15 (i : grid0.Coords) (c0_i32 : BitVec 32) (c0_i32_25 : BitVec 32) : Fin 2 → Nat :=
  let arg1 : BitVec 32 := BitVec.ofNat 32 (i 1).val
  let c4_i32 : BitVec 32 := 4#32
  let v1 : BitVec 32 := Scalar.muli arg1 c4_i32
  let v2 : BitVec 32 := Scalar.addi v1 c0_i32
  let c512_i32 : BitVec 32 := 512#32
  let v20 : BitVec 32 := Scalar.muli v2 c512_i32
  let v59 : BitVec 32 := Scalar.addi v20 c0_i32_25
  let v60 : BitVec 32 := v59
  let v61 : Index := Scalar.indexCast v60
  let c0_26 : Index := 0#32
  ![v61.toNat, 0]
def k0_mult13 (i : grid0.Coords) : BitVec 32 :=
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let c512_i32 : BitVec 32 := 512#32
  let v20 : BitVec 32 := Scalar.muli v2 c512_i32
  let c128_i32 : BitVec 32 := 128#32
  let v88 : BitVec 32 := Scalar.addi v20 c128_i32
  v88
def k0_mult14 (i : grid0.Coords) : BitVec 32 :=
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let c512_i32 : BitVec 32 := 512#32
  let v20 : BitVec 32 := Scalar.muli v2 c512_i32
  let c256_i32_45 : BitVec 32 := 256#32
  let v117 : BitVec 32 := Scalar.addi v20 c256_i32_45
  v117
def k0_mult15 (i : grid0.Coords) : BitVec 32 :=
  let arg1 : BitVec 32 := BitVec.ofNat 32 (i 1).val
  let c4_i32 : BitVec 32 := 4#32
  let v1 : BitVec 32 := Scalar.muli arg1 c4_i32
  let c0_i32 : BitVec 32 := 0#32
  let v2 : BitVec 32 := Scalar.addi v1 c0_i32
  let c512_i32 : BitVec 32 := 512#32
  let v20 : BitVec 32 := Scalar.muli v2 c512_i32
  let c384_i32 : BitVec 32 := 384#32
  let v146 : BitVec 32 := Scalar.addi v20 c384_i32
  v146
@[reducible] def k0_t3_loop (i : grid0.Coords) : Scf.Loop 32 :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_112 : BitVec 32 := 1#32
  ⟨c0_i32_110, v267, c1_i32_112⟩
def k0_mult16 (i : grid0.Coords) (k0_t3 : Fin (k0_t3_loop i).trips) : BitVec 32 :=
  let c0_i32_110 : BitVec 32 := 0#32
  let c1_i32_112 : BitVec 32 := 1#32
  let arg8 : BitVec 32 := Scf.iv c0_i32_110 c1_i32_112 k0_t3
  let c256_i32_446 : BitVec 32 := 256#32
  let v1009 : BitVec 32 := Scalar.muli arg8 c256_i32_446
  v1009
def k0_off16 (i : grid0.Coords) (k0_t3 : Fin (k0_t3_loop i).trips) : Fin 2 → Nat :=
  let c0_i32_110 : BitVec 32 := 0#32
  let c1_i32_112 : BitVec 32 := 1#32
  let arg8 : BitVec 32 := Scf.iv c0_i32_110 c1_i32_112 k0_t3
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off17 (i : grid0.Coords) (k0_t3 : Fin (k0_t3_loop i).trips) : Fin 2 → Nat :=
  let c0_i32_110 : BitVec 32 := 0#32
  let c1_i32_112 : BitVec 32 := 1#32
  let arg8 : BitVec 32 := Scf.iv c0_i32_110 c1_i32_112 k0_t3
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off18 (i : grid0.Coords) (k0_t3 : Fin (k0_t3_loop i).trips) : Fin 2 → Nat :=
  let c0_i32_110 : BitVec 32 := 0#32
  let c1_i32_112 : BitVec 32 := 1#32
  let arg8 : BitVec 32 := Scf.iv c0_i32_110 c1_i32_112 k0_t3
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off19 (i : grid0.Coords) (k0_t3 : Fin (k0_t3_loop i).trips) : Fin 2 → Nat :=
  let c0_i32_110 : BitVec 32 := 0#32
  let c1_i32_112 : BitVec 32 := 1#32
  let arg8 : BitVec 32 := Scf.iv c0_i32_110 c1_i32_112 k0_t3
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult17 (i : grid0.Coords) (k0_t3 : Fin (k0_t3_loop i).trips) : BitVec 32 :=
  let c0_i32_110 : BitVec 32 := 0#32
  let c1_i32_112 : BitVec 32 := 1#32
  let arg8 : BitVec 32 := Scf.iv c0_i32_110 c1_i32_112 k0_t3
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off20 (i : grid0.Coords) (k0_t3 : Fin (k0_t3_loop i).trips) (c0_i32_465 : BitVec 32) : Fin 2 → Nat :=
  let c0_i32_110 : BitVec 32 := 0#32
  let c1_i32_112 : BitVec 32 := 1#32
  let arg8 : BitVec 32 := Scf.iv c0_i32_110 c1_i32_112 k0_t3
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult18 (i : grid0.Coords) (k0_t3 : Fin (k0_t3_loop i).trips) : BitVec 32 :=
  let c0_i32_110 : BitVec 32 := 0#32
  let c1_i32_112 : BitVec 32 := 1#32
  let arg8 : BitVec 32 := Scf.iv c0_i32_110 c1_i32_112 k0_t3
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult19 (i : grid0.Coords) (k0_t3 : Fin (k0_t3_loop i).trips) : BitVec 32 :=
  let c0_i32_110 : BitVec 32 := 0#32
  let c1_i32_112 : BitVec 32 := 1#32
  let arg8 : BitVec 32 := Scf.iv c0_i32_110 c1_i32_112 k0_t3
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult20 (i : grid0.Coords) (k0_t3 : Fin (k0_t3_loop i).trips) : BitVec 32 :=
  let c0_i32_110 : BitVec 32 := 0#32
  let c1_i32_112 : BitVec 32 := 1#32
  let arg8 : BitVec 32 := Scf.iv c0_i32_110 c1_i32_112 k0_t3
  let c512_i32_447 : BitVec 32 := 512#32
  let v1011 : BitVec 32 := Scalar.muli arg8 c512_i32_447
  let c384_i32_495 : BitVec 32 := 384#32
  let v1117 : BitVec 32 := Scalar.addi v1011 c384_i32_495
  v1117
@[reducible] def k0_t4_loop (i : grid0.Coords) : Scf.Loop 32 :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let v264 : BitVec 32 := Scalar.addi c0_i32_110 v263
  let c1_i32_113 : BitVec 32 := 1#32
  ⟨v267, v264, c1_i32_113⟩
def k0_mult21 (i : grid0.Coords) (k0_t4 : Fin (k0_t4_loop i).trips) : BitVec 32 :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c256_i32_446 : BitVec 32 := 256#32
  let v1009 : BitVec 32 := Scalar.muli arg8 c256_i32_446
  v1009
def k0_off21 (i : grid0.Coords) (k0_t4 : Fin (k0_t4_loop i).trips) : Fin 2 → Nat :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off22 (i : grid0.Coords) (k0_t4 : Fin (k0_t4_loop i).trips) : Fin 2 → Nat :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off23 (i : grid0.Coords) (k0_t4 : Fin (k0_t4_loop i).trips) : Fin 2 → Nat :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off24 (i : grid0.Coords) (k0_t4 : Fin (k0_t4_loop i).trips) : Fin 2 → Nat :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult22 (i : grid0.Coords) (k0_t4 : Fin (k0_t4_loop i).trips) : BitVec 32 :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off25 (i : grid0.Coords) (k0_t4 : Fin (k0_t4_loop i).trips) (c0_i32_465 : BitVec 32) : Fin 2 → Nat :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult23 (i : grid0.Coords) (k0_t4 : Fin (k0_t4_loop i).trips) : BitVec 32 :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult24 (i : grid0.Coords) (k0_t4 : Fin (k0_t4_loop i).trips) : BitVec 32 :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult25 (i : grid0.Coords) (k0_t4 : Fin (k0_t4_loop i).trips) : BitVec 32 :=
  let c0_i32_110 : BitVec 32 := 0#32
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let v263 : BitVec 32 := Scalar.subi v254 c0_i32_110
  let c1_i32_111 : BitVec 32 := 1#32
  let v265 : BitVec 32 := Scalar.divsi v263 c1_i32_111
  let v266 : BitVec 32 := Scalar.muli v265 c1_i32_111
  let v267 : BitVec 32 := Scalar.addi c0_i32_110 v266
  let c1_i32_113 : BitVec 32 := 1#32
  let arg8 : BitVec 32 := Scf.iv v267 c1_i32_113 k0_t4
  let c512_i32_447 : BitVec 32 := 512#32
  let v1011 : BitVec 32 := Scalar.muli arg8 c512_i32_447
  let c384_i32_495 : BitVec 32 := 384#32
  let v1117 : BitVec 32 := Scalar.addi v1011 c384_i32_495
  v1117
def k0_mult26 (i : grid0.Coords) : BitVec 32 :=
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let c256_i32_114 : BitVec 32 := 256#32
  let v270 : BitVec 32 := Scalar.muli v254 c256_i32_114
  v270
def k0_mult27 (i : grid0.Coords) : BitVec 32 :=
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let c512_i32_115 : BitVec 32 := 512#32
  let v272 : BitVec 32 := Scalar.muli v254 c512_i32_115
  let c0_i32_134 : BitVec 32 := 0#32
  let v311 : BitVec 32 := Scalar.addi v272 c0_i32_134
  v311
def k0_mult28 (i : grid0.Coords) : BitVec 32 :=
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let c512_i32_115 : BitVec 32 := 512#32
  let v272 : BitVec 32 := Scalar.muli v254 c512_i32_115
  let c128_i32_145 : BitVec 32 := 128#32
  let v340 : BitVec 32 := Scalar.addi v272 c128_i32_145
  v340
def k0_mult29 (i : grid0.Coords) : BitVec 32 :=
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let c512_i32_115 : BitVec 32 := 512#32
  let v272 : BitVec 32 := Scalar.muli v254 c512_i32_115
  let c256_i32_156 : BitVec 32 := 256#32
  let v369 : BitVec 32 := Scalar.addi v272 c256_i32_156
  v369
def k0_mult30 (i : grid0.Coords) : BitVec 32 :=
  let arg1 : BitVec 32 := BitVec.ofNat 32 (i 1).val
  let c4_i32_100 : BitVec 32 := 4#32
  let v253 : BitVec 32 := Scalar.muli arg1 c4_i32_100
  let c1_i32_101 : BitVec 32 := 1#32
  let v254 : BitVec 32 := Scalar.addi v253 c1_i32_101
  let c512_i32_115 : BitVec 32 := 512#32
  let v272 : BitVec 32 := Scalar.muli v254 c512_i32_115
  let c384_i32_167 : BitVec 32 := 384#32
  let v398 : BitVec 32 := Scalar.addi v272 c384_i32_167
  v398
@[reducible] def k0_t5_loop (i : grid0.Coords) : Scf.Loop 32 :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_227 : BitVec 32 := 1#32
  ⟨c0_i32_225, v519, c1_i32_227⟩
def k0_mult31 (i : grid0.Coords) (k0_t5 : Fin (k0_t5_loop i).trips) : BitVec 32 :=
  let c0_i32_225 : BitVec 32 := 0#32
  let c1_i32_227 : BitVec 32 := 1#32
  let arg8 : BitVec 32 := Scf.iv c0_i32_225 c1_i32_227 k0_t5
  let c256_i32_446 : BitVec 32 := 256#32
  let v1009 : BitVec 32 := Scalar.muli arg8 c256_i32_446
  v1009
def k0_off26 (i : grid0.Coords) (k0_t5 : Fin (k0_t5_loop i).trips) : Fin 2 → Nat :=
  let c0_i32_225 : BitVec 32 := 0#32
  let c1_i32_227 : BitVec 32 := 1#32
  let arg8 : BitVec 32 := Scf.iv c0_i32_225 c1_i32_227 k0_t5
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off27 (i : grid0.Coords) (k0_t5 : Fin (k0_t5_loop i).trips) : Fin 2 → Nat :=
  let c0_i32_225 : BitVec 32 := 0#32
  let c1_i32_227 : BitVec 32 := 1#32
  let arg8 : BitVec 32 := Scf.iv c0_i32_225 c1_i32_227 k0_t5
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off28 (i : grid0.Coords) (k0_t5 : Fin (k0_t5_loop i).trips) : Fin 2 → Nat :=
  let c0_i32_225 : BitVec 32 := 0#32
  let c1_i32_227 : BitVec 32 := 1#32
  let arg8 : BitVec 32 := Scf.iv c0_i32_225 c1_i32_227 k0_t5
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off29 (i : grid0.Coords) (k0_t5 : Fin (k0_t5_loop i).trips) : Fin 2 → Nat :=
  let c0_i32_225 : BitVec 32 := 0#32
  let c1_i32_227 : BitVec 32 := 1#32
  let arg8 : BitVec 32 := Scf.iv c0_i32_225 c1_i32_227 k0_t5
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult32 (i : grid0.Coords) (k0_t5 : Fin (k0_t5_loop i).trips) : BitVec 32 :=
  let c0_i32_225 : BitVec 32 := 0#32
  let c1_i32_227 : BitVec 32 := 1#32
  let arg8 : BitVec 32 := Scf.iv c0_i32_225 c1_i32_227 k0_t5
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off30 (i : grid0.Coords) (k0_t5 : Fin (k0_t5_loop i).trips) (c0_i32_465 : BitVec 32) : Fin 2 → Nat :=
  let c0_i32_225 : BitVec 32 := 0#32
  let c1_i32_227 : BitVec 32 := 1#32
  let arg8 : BitVec 32 := Scf.iv c0_i32_225 c1_i32_227 k0_t5
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult33 (i : grid0.Coords) (k0_t5 : Fin (k0_t5_loop i).trips) : BitVec 32 :=
  let c0_i32_225 : BitVec 32 := 0#32
  let c1_i32_227 : BitVec 32 := 1#32
  let arg8 : BitVec 32 := Scf.iv c0_i32_225 c1_i32_227 k0_t5
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult34 (i : grid0.Coords) (k0_t5 : Fin (k0_t5_loop i).trips) : BitVec 32 :=
  let c0_i32_225 : BitVec 32 := 0#32
  let c1_i32_227 : BitVec 32 := 1#32
  let arg8 : BitVec 32 := Scf.iv c0_i32_225 c1_i32_227 k0_t5
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult35 (i : grid0.Coords) (k0_t5 : Fin (k0_t5_loop i).trips) : BitVec 32 :=
  let c0_i32_225 : BitVec 32 := 0#32
  let c1_i32_227 : BitVec 32 := 1#32
  let arg8 : BitVec 32 := Scf.iv c0_i32_225 c1_i32_227 k0_t5
  let c512_i32_447 : BitVec 32 := 512#32
  let v1011 : BitVec 32 := Scalar.muli arg8 c512_i32_447
  let c384_i32_495 : BitVec 32 := 384#32
  let v1117 : BitVec 32 := Scalar.addi v1011 c384_i32_495
  v1117
@[reducible] def k0_t6_loop (i : grid0.Coords) : Scf.Loop 32 :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let v516 : BitVec 32 := Scalar.addi c0_i32_225 v515
  let c1_i32_228 : BitVec 32 := 1#32
  ⟨v519, v516, c1_i32_228⟩
def k0_mult36 (i : grid0.Coords) (k0_t6 : Fin (k0_t6_loop i).trips) : BitVec 32 :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c256_i32_446 : BitVec 32 := 256#32
  let v1009 : BitVec 32 := Scalar.muli arg8 c256_i32_446
  v1009
def k0_off31 (i : grid0.Coords) (k0_t6 : Fin (k0_t6_loop i).trips) : Fin 2 → Nat :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off32 (i : grid0.Coords) (k0_t6 : Fin (k0_t6_loop i).trips) : Fin 2 → Nat :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off33 (i : grid0.Coords) (k0_t6 : Fin (k0_t6_loop i).trips) : Fin 2 → Nat :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off34 (i : grid0.Coords) (k0_t6 : Fin (k0_t6_loop i).trips) : Fin 2 → Nat :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult37 (i : grid0.Coords) (k0_t6 : Fin (k0_t6_loop i).trips) : BitVec 32 :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off35 (i : grid0.Coords) (k0_t6 : Fin (k0_t6_loop i).trips) (c0_i32_465 : BitVec 32) : Fin 2 → Nat :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult38 (i : grid0.Coords) (k0_t6 : Fin (k0_t6_loop i).trips) : BitVec 32 :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult39 (i : grid0.Coords) (k0_t6 : Fin (k0_t6_loop i).trips) : BitVec 32 :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult40 (i : grid0.Coords) (k0_t6 : Fin (k0_t6_loop i).trips) : BitVec 32 :=
  let c0_i32_225 : BitVec 32 := 0#32
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let v515 : BitVec 32 := Scalar.subi v506 c0_i32_225
  let c1_i32_226 : BitVec 32 := 1#32
  let v517 : BitVec 32 := Scalar.divsi v515 c1_i32_226
  let v518 : BitVec 32 := Scalar.muli v517 c1_i32_226
  let v519 : BitVec 32 := Scalar.addi c0_i32_225 v518
  let c1_i32_228 : BitVec 32 := 1#32
  let arg8 : BitVec 32 := Scf.iv v519 c1_i32_228 k0_t6
  let c512_i32_447 : BitVec 32 := 512#32
  let v1011 : BitVec 32 := Scalar.muli arg8 c512_i32_447
  let c384_i32_495 : BitVec 32 := 384#32
  let v1117 : BitVec 32 := Scalar.addi v1011 c384_i32_495
  v1117
def k0_mult41 (i : grid0.Coords) : BitVec 32 :=
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let c256_i32_229 : BitVec 32 := 256#32
  let v522 : BitVec 32 := Scalar.muli v506 c256_i32_229
  v522
def k0_mult42 (i : grid0.Coords) : BitVec 32 :=
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let c512_i32_230 : BitVec 32 := 512#32
  let v524 : BitVec 32 := Scalar.muli v506 c512_i32_230
  let c0_i32_249 : BitVec 32 := 0#32
  let v563 : BitVec 32 := Scalar.addi v524 c0_i32_249
  v563
def k0_mult43 (i : grid0.Coords) : BitVec 32 :=
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let c512_i32_230 : BitVec 32 := 512#32
  let v524 : BitVec 32 := Scalar.muli v506 c512_i32_230
  let c128_i32_260 : BitVec 32 := 128#32
  let v592 : BitVec 32 := Scalar.addi v524 c128_i32_260
  v592
def k0_mult44 (i : grid0.Coords) : BitVec 32 :=
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let c512_i32_230 : BitVec 32 := 512#32
  let v524 : BitVec 32 := Scalar.muli v506 c512_i32_230
  let c256_i32_271 : BitVec 32 := 256#32
  let v621 : BitVec 32 := Scalar.addi v524 c256_i32_271
  v621
def k0_mult45 (i : grid0.Coords) : BitVec 32 :=
  let arg1 : BitVec 32 := BitVec.ofNat 32 (i 1).val
  let c4_i32_216 : BitVec 32 := 4#32
  let v505 : BitVec 32 := Scalar.muli arg1 c4_i32_216
  let c2_i32 : BitVec 32 := 2#32
  let v506 : BitVec 32 := Scalar.addi v505 c2_i32
  let c512_i32_230 : BitVec 32 := 512#32
  let v524 : BitVec 32 := Scalar.muli v506 c512_i32_230
  let c384_i32_282 : BitVec 32 := 384#32
  let v650 : BitVec 32 := Scalar.addi v524 c384_i32_282
  v650
@[reducible] def k0_t7_loop (i : grid0.Coords) : Scf.Loop 32 :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_342 : BitVec 32 := 1#32
  ⟨c0_i32_340, v771, c1_i32_342⟩
def k0_mult46 (i : grid0.Coords) (k0_t7 : Fin (k0_t7_loop i).trips) : BitVec 32 :=
  let c0_i32_340 : BitVec 32 := 0#32
  let c1_i32_342 : BitVec 32 := 1#32
  let arg8 : BitVec 32 := Scf.iv c0_i32_340 c1_i32_342 k0_t7
  let c256_i32_446 : BitVec 32 := 256#32
  let v1009 : BitVec 32 := Scalar.muli arg8 c256_i32_446
  v1009
def k0_off36 (i : grid0.Coords) (k0_t7 : Fin (k0_t7_loop i).trips) : Fin 2 → Nat :=
  let c0_i32_340 : BitVec 32 := 0#32
  let c1_i32_342 : BitVec 32 := 1#32
  let arg8 : BitVec 32 := Scf.iv c0_i32_340 c1_i32_342 k0_t7
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off37 (i : grid0.Coords) (k0_t7 : Fin (k0_t7_loop i).trips) : Fin 2 → Nat :=
  let c0_i32_340 : BitVec 32 := 0#32
  let c1_i32_342 : BitVec 32 := 1#32
  let arg8 : BitVec 32 := Scf.iv c0_i32_340 c1_i32_342 k0_t7
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off38 (i : grid0.Coords) (k0_t7 : Fin (k0_t7_loop i).trips) : Fin 2 → Nat :=
  let c0_i32_340 : BitVec 32 := 0#32
  let c1_i32_342 : BitVec 32 := 1#32
  let arg8 : BitVec 32 := Scf.iv c0_i32_340 c1_i32_342 k0_t7
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off39 (i : grid0.Coords) (k0_t7 : Fin (k0_t7_loop i).trips) : Fin 2 → Nat :=
  let c0_i32_340 : BitVec 32 := 0#32
  let c1_i32_342 : BitVec 32 := 1#32
  let arg8 : BitVec 32 := Scf.iv c0_i32_340 c1_i32_342 k0_t7
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult47 (i : grid0.Coords) (k0_t7 : Fin (k0_t7_loop i).trips) : BitVec 32 :=
  let c0_i32_340 : BitVec 32 := 0#32
  let c1_i32_342 : BitVec 32 := 1#32
  let arg8 : BitVec 32 := Scf.iv c0_i32_340 c1_i32_342 k0_t7
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off40 (i : grid0.Coords) (k0_t7 : Fin (k0_t7_loop i).trips) (c0_i32_465 : BitVec 32) : Fin 2 → Nat :=
  let c0_i32_340 : BitVec 32 := 0#32
  let c1_i32_342 : BitVec 32 := 1#32
  let arg8 : BitVec 32 := Scf.iv c0_i32_340 c1_i32_342 k0_t7
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult48 (i : grid0.Coords) (k0_t7 : Fin (k0_t7_loop i).trips) : BitVec 32 :=
  let c0_i32_340 : BitVec 32 := 0#32
  let c1_i32_342 : BitVec 32 := 1#32
  let arg8 : BitVec 32 := Scf.iv c0_i32_340 c1_i32_342 k0_t7
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult49 (i : grid0.Coords) (k0_t7 : Fin (k0_t7_loop i).trips) : BitVec 32 :=
  let c0_i32_340 : BitVec 32 := 0#32
  let c1_i32_342 : BitVec 32 := 1#32
  let arg8 : BitVec 32 := Scf.iv c0_i32_340 c1_i32_342 k0_t7
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult50 (i : grid0.Coords) (k0_t7 : Fin (k0_t7_loop i).trips) : BitVec 32 :=
  let c0_i32_340 : BitVec 32 := 0#32
  let c1_i32_342 : BitVec 32 := 1#32
  let arg8 : BitVec 32 := Scf.iv c0_i32_340 c1_i32_342 k0_t7
  let c512_i32_447 : BitVec 32 := 512#32
  let v1011 : BitVec 32 := Scalar.muli arg8 c512_i32_447
  let c384_i32_495 : BitVec 32 := 384#32
  let v1117 : BitVec 32 := Scalar.addi v1011 c384_i32_495
  v1117
@[reducible] def k0_t8_loop (i : grid0.Coords) : Scf.Loop 32 :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let v768 : BitVec 32 := Scalar.addi c0_i32_340 v767
  let c1_i32_343 : BitVec 32 := 1#32
  ⟨v771, v768, c1_i32_343⟩
def k0_mult51 (i : grid0.Coords) (k0_t8 : Fin (k0_t8_loop i).trips) : BitVec 32 :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c256_i32_446 : BitVec 32 := 256#32
  let v1009 : BitVec 32 := Scalar.muli arg8 c256_i32_446
  v1009
def k0_off41 (i : grid0.Coords) (k0_t8 : Fin (k0_t8_loop i).trips) : Fin 2 → Nat :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c256_i32_446 : BitVec 32 := 256#32
  let v1009 : BitVec 32 := Scalar.muli arg8 c256_i32_446
  let v1010 : BitVec 32 := v1009
  let v1012 : Index := Scalar.indexCast v1010
  let c0_448 : Index := 0#32
  ![v1012.toNat, 0]
def k0_off42 (i : grid0.Coords) (k0_t8 : Fin (k0_t8_loop i).trips) : Fin 2 → Nat :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c256_i32_446 : BitVec 32 := 256#32
  let v1009 : BitVec 32 := Scalar.muli arg8 c256_i32_446
  let v1010 : BitVec 32 := v1009
  let v1018 : Index := Scalar.indexCast v1010
  let c256_452 : Index := 256#32
  ![v1018.toNat, 256]
def k0_off43 (i : grid0.Coords) (k0_t8 : Fin (k0_t8_loop i).trips) : Fin 2 → Nat :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c256_i32_446 : BitVec 32 := 256#32
  let v1009 : BitVec 32 := Scalar.muli arg8 c256_i32_446
  let v1010 : BitVec 32 := v1009
  let v1024 : Index := Scalar.indexCast v1010
  let c512_456 : Index := 512#32
  ![v1024.toNat, 512]
def k0_off44 (i : grid0.Coords) (k0_t8 : Fin (k0_t8_loop i).trips) : Fin 2 → Nat :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c256_i32_446 : BitVec 32 := 256#32
  let v1009 : BitVec 32 := Scalar.muli arg8 c256_i32_446
  let v1010 : BitVec 32 := v1009
  let v1030 : Index := Scalar.indexCast v1010
  let c768_460 : Index := 768#32
  ![v1030.toNat, 768]
def k0_mult52 (i : grid0.Coords) (k0_t8 : Fin (k0_t8_loop i).trips) : BitVec 32 :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c512_i32_447 : BitVec 32 := 512#32
  let v1011 : BitVec 32 := Scalar.muli arg8 c512_i32_447
  let c0_i32_465 : BitVec 32 := 0#32
  let v1045 : BitVec 32 := Scalar.addi v1011 c0_i32_465
  v1045
def k0_off45 (i : grid0.Coords) (k0_t8 : Fin (k0_t8_loop i).trips) (c0_i32_465 : BitVec 32) : Fin 2 → Nat :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c512_i32_447 : BitVec 32 := 512#32
  let v1011 : BitVec 32 := Scalar.muli arg8 c512_i32_447
  let v1045 : BitVec 32 := Scalar.addi v1011 c0_i32_465
  let v1046 : BitVec 32 := v1045
  let v1047 : Index := Scalar.indexCast v1046
  let c0_466 : Index := 0#32
  ![v1047.toNat, 0]
def k0_mult53 (i : grid0.Coords) (k0_t8 : Fin (k0_t8_loop i).trips) : BitVec 32 :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c512_i32_447 : BitVec 32 := 512#32
  let v1011 : BitVec 32 := Scalar.muli arg8 c512_i32_447
  let c128_i32_475 : BitVec 32 := 128#32
  let v1069 : BitVec 32 := Scalar.addi v1011 c128_i32_475
  v1069
def k0_mult54 (i : grid0.Coords) (k0_t8 : Fin (k0_t8_loop i).trips) : BitVec 32 :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c512_i32_447 : BitVec 32 := 512#32
  let v1011 : BitVec 32 := Scalar.muli arg8 c512_i32_447
  let c256_i32_485 : BitVec 32 := 256#32
  let v1093 : BitVec 32 := Scalar.addi v1011 c256_i32_485
  v1093
def k0_mult55 (i : grid0.Coords) (k0_t8 : Fin (k0_t8_loop i).trips) : BitVec 32 :=
  let c0_i32_340 : BitVec 32 := 0#32
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let v767 : BitVec 32 := Scalar.subi v758 c0_i32_340
  let c1_i32_341 : BitVec 32 := 1#32
  let v769 : BitVec 32 := Scalar.divsi v767 c1_i32_341
  let v770 : BitVec 32 := Scalar.muli v769 c1_i32_341
  let v771 : BitVec 32 := Scalar.addi c0_i32_340 v770
  let c1_i32_343 : BitVec 32 := 1#32
  let arg8 : BitVec 32 := Scf.iv v771 c1_i32_343 k0_t8
  let c512_i32_447 : BitVec 32 := 512#32
  let v1011 : BitVec 32 := Scalar.muli arg8 c512_i32_447
  let c384_i32_495 : BitVec 32 := 384#32
  let v1117 : BitVec 32 := Scalar.addi v1011 c384_i32_495
  v1117
def k0_mult56 (i : grid0.Coords) : BitVec 32 :=
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let c256_i32_344 : BitVec 32 := 256#32
  let v774 : BitVec 32 := Scalar.muli v758 c256_i32_344
  v774
def k0_mult57 (i : grid0.Coords) : BitVec 32 :=
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let c512_i32_345 : BitVec 32 := 512#32
  let v776 : BitVec 32 := Scalar.muli v758 c512_i32_345
  let c0_i32_364 : BitVec 32 := 0#32
  let v815 : BitVec 32 := Scalar.addi v776 c0_i32_364
  v815
def k0_mult58 (i : grid0.Coords) : BitVec 32 :=
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let c512_i32_345 : BitVec 32 := 512#32
  let v776 : BitVec 32 := Scalar.muli v758 c512_i32_345
  let c128_i32_375 : BitVec 32 := 128#32
  let v844 : BitVec 32 := Scalar.addi v776 c128_i32_375
  v844
def k0_mult59 (i : grid0.Coords) : BitVec 32 :=
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let c512_i32_345 : BitVec 32 := 512#32
  let v776 : BitVec 32 := Scalar.muli v758 c512_i32_345
  let c256_i32_386 : BitVec 32 := 256#32
  let v873 : BitVec 32 := Scalar.addi v776 c256_i32_386
  v873
def k0_mult60 (i : grid0.Coords) : BitVec 32 :=
  let arg1 : BitVec 32 := BitVec.ofNat 32 (i 1).val
  let c4_i32_331 : BitVec 32 := 4#32
  let v757 : BitVec 32 := Scalar.muli arg1 c4_i32_331
  let c3_i32 : BitVec 32 := 3#32
  let v758 : BitVec 32 := Scalar.addi v757 c3_i32
  let c512_i32_345 : BitVec 32 := 512#32
  let v776 : BitVec 32 := Scalar.muli v758 c512_i32_345
  let c384_i32_397 : BitVec 32 := 384#32
  let v902 : BitVec 32 := Scalar.addi v776 c384_i32_397
  v902
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x4x2048x192 : Shape := ⟨4, ![16, 4, 2048, 192]⟩
abbrev S16x4x2048x128 : Shape := ⟨4, ![16, 4, 2048, 128]⟩
abbrev S4x128 : Shape := ⟨2, ![4, 128]⟩
abbrev S16x4x2048x2048 : Shape := ⟨4, ![16, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2048 : Shape := ⟨3, ![16, 4, 2048]⟩
abbrev S16x4x2048x1 : Shape := ⟨4, ![16, 4, 2048, 1]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x4x128 : Shape := ⟨4, ![1, 1, 4, 128]⟩
abbrev S32768x512 : Shape := ⟨2, ![32768, 512]⟩

abbrev nBuf : Space → Nat
  | .hbm => 54
  | .vmem => 0
  | .smem => 0
  | _ => 0

abbrev bufTy : (tb : Table) → Fin (tcTables nBuf tb) → BufTy
  | .hbm, ⟨0, _⟩ => ⟨S16x4x2048x192, .f32⟩
  | .hbm, ⟨1, _⟩ => ⟨S16x4x2048x192, .f32⟩
  | .hbm, ⟨2, _⟩ => ⟨S16x4x2048x128, .f32⟩
  | .hbm, ⟨3, _⟩ => ⟨S4x128, .f32⟩
  | .hbm, ⟨4, _⟩ => ⟨S16x4x2048x2048, .f32⟩
  | .hbm, ⟨5, _⟩ => ⟨S_, .f32⟩
  | .hbm, ⟨6, _⟩ => ⟨S16x4x2048x2048, .f32⟩
  | .hbm, ⟨7, _⟩ => ⟨S16x4x2048x2048, .f32⟩
  | .hbm, ⟨8, _⟩ => ⟨S2048, .i32⟩
  | .hbm, ⟨9, _⟩ => ⟨S1x2048, .i32⟩
  | .hbm, ⟨10, _⟩ => ⟨S2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S16x4x2048x2048, .i1⟩
  | .hbm, ⟨18, _⟩ => ⟨S16x4x2048x2048, .f32⟩
  | .hbm, ⟨19, _⟩ => ⟨S16x4x2048x2048, .f32⟩
  | .hbm, ⟨20, _⟩ => ⟨S_, .f32⟩
  | .hbm, ⟨21, _⟩ => ⟨S16x4x2048, .f32⟩
  | .hbm, ⟨22, _⟩ => ⟨S_, .f32⟩
  | .hbm, ⟨23, _⟩ => ⟨S16x4x2048, .f32⟩
  | .hbm, ⟨24, _⟩ => ⟨S16x4x2048, .f32⟩
  | .hbm, ⟨25, _⟩ => ⟨S16x4x2048x1, .f32⟩
  | .hbm, ⟨26, _⟩ => ⟨S16x4x2048x2048, .f32⟩
  | .hbm, ⟨27, _⟩ => ⟨S16x4x2048x2048, .f32⟩
  | .hbm, ⟨28, _⟩ => ⟨S16x4x2048x2048, .f32⟩
  | .hbm, ⟨29, _⟩ => ⟨S_, .f32⟩
  | .hbm, ⟨30, _⟩ => ⟨S16x4x2048, .f32⟩
  | .hbm, ⟨31, _⟩ => ⟨S16x4x2048x1, .f32⟩
  | .hbm, ⟨32, _⟩ => ⟨S16x4x2048x2048, .f32⟩
  | .hbm, ⟨33, _⟩ => ⟨S16x4x2048x2048, .f32⟩
  | .hbm, ⟨34, _⟩ => ⟨S16x4x2048x128, .f32⟩
  | .hbm, ⟨35, _⟩ => ⟨S16x2048x4x128, .f32⟩
  | .hbm, ⟨36, _⟩ => ⟨S16x2048x4x128, .f32⟩
  | .hbm, ⟨37, _⟩ => ⟨S_, .f32⟩
  | .hbm, ⟨38, _⟩ => ⟨S16x2048x4, .f32⟩
  | .hbm, ⟨39, _⟩ => ⟨S16x2048x4x1, .f32⟩
  | .hbm, ⟨40, _⟩ => ⟨S_, .f32⟩
  | .hbm, ⟨41, _⟩ => ⟨S16x2048x4x1, .f32⟩
  | .hbm, ⟨42, _⟩ => ⟨S16x2048x4x1, .f32⟩
  | .hbm, ⟨43, _⟩ => ⟨S_, .f32⟩
  | .hbm, ⟨44, _⟩ => ⟨S16x2048x4x1, .f32⟩
  | .hbm, ⟨45, _⟩ => ⟨S16x2048x4x1, .f32⟩
  | .hbm, ⟨46, _⟩ => ⟨S16x2048x4x1, .f32⟩
  | .hbm, ⟨47, _⟩ => ⟨S16x2048x4x128, .f32⟩
  | .hbm, ⟨48, _⟩ => ⟨S16x2048x4x128, .f32⟩
  | .hbm, ⟨49, _⟩ => ⟨S1x1x4x128, .f32⟩
  | .hbm, ⟨50, _⟩ => ⟨S16x2048x4x128, .f32⟩
  | .hbm, ⟨51, _⟩ => ⟨S16x2048x4x128, .f32⟩
  | .hbm, ⟨52, _⟩ => ⟨S32768x512, .f32⟩
  | .hbm, ⟨53, _⟩ => ⟨S32768x512, .bf16⟩
  | _, _ => ⟨S16x4x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S16x256x4x128 : Shape := ⟨4, ![16, 256, 4, 128]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1024x4096 : Shape := ⟨2, ![1024, 4096]⟩
abbrev S4096x1024 : Shape := ⟨2, ![4096, 1024]⟩
abbrev S1x1024 : Shape := ⟨2, ![1, 1024]⟩
abbrev S1x128 : Shape := ⟨2, ![1, 128]⟩
abbrev S32768x1024 : Shape := ⟨2, ![32768, 1024]⟩
abbrev S32768x512 : Shape := ⟨2, ![32768, 512]⟩
abbrev S4096x512 : Shape := ⟨2, ![4096, 512]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩

abbrev nBuf : Space → Nat
  | .hbm => 31
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x256x4x128, .f32⟩
  | .hbm, ⟨4, _⟩ => ⟨S16x256x4x128, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S128, .f32⟩
  | .hbm, ⟨9, _⟩ => ⟨S512x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024x1024, .bf16⟩
  | .hbm, ⟨14, _⟩ => ⟨S1x1024, .f32⟩
  | .hbm, ⟨15, _⟩ => ⟨S1024x512, .bf16⟩
  | .hbm, ⟨16, _⟩ => ⟨S1x128, .f32⟩
  | .hbm, ⟨17, _⟩ => ⟨S512x1024, .bf16⟩
  | .hbm, ⟨18, _⟩ => ⟨S1x1024, .f32⟩
  | .hbm, ⟨19, _⟩ => ⟨S1024x4096, .bf16⟩
  | .hbm, ⟨20, _⟩ => ⟨S4096x1024, .bf16⟩
  | .hbm, ⟨21, _⟩ => ⟨S32768x1024, .f32⟩
  | .hbm, ⟨22, _⟩ => ⟨S32768x512, .f32⟩
  | .hbm, ⟨23, _⟩ => ⟨S32768x512, .bf16⟩
  | .hbm, ⟨24, _⟩ => ⟨S32768x512, .f32⟩
  | .hbm, ⟨25, _⟩ => ⟨S32768x512, .bf16⟩
  | .hbm, ⟨26, _⟩ => ⟨S4096x512, .f32⟩
  | .hbm, ⟨27, _⟩ => ⟨S4096x512, .bf16⟩
  | .hbm, ⟨28, _⟩ => ⟨S4096x512, .f32⟩
  | .hbm, ⟨29, _⟩ => ⟨S4096x512, .bf16⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S512x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c512_i32 : BitVec 32 := 512#32
  let v1 : BitVec 32 := Scalar.muli v0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c512_i32 : BitVec 32 := 512#32
  let v1 : BitVec 32 := Scalar.muli v0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16x2048x1024 : Shape := ⟨3, ![16, 2048, 1024]⟩
abbrev S16x2048x512 : Shape := ⟨3, ![16, 2048, 512]⟩
abbrev S16x256x4x128 : Shape := ⟨4, ![16, 256, 4, 128]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x4096 : Shape := ⟨3, ![16, 2048, 4096]⟩
abbrev S32768x1024 : Shape := ⟨2, ![32768, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x256x4x128, .f32⟩
  | .hbm, ⟨4, _⟩ => ⟨S16x256x4x128, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S128, .f32⟩
  | .hbm, ⟨9, _⟩ => ⟨S512x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x2048x512, .f32⟩
  | .hbm, ⟨33, _⟩ => ⟨S16x2048x4x128, .f32⟩
  | .hbm, ⟨34, _⟩ => ⟨S16x2048x4x128, .f32⟩
  | .hbm, ⟨35, _⟩ => ⟨S_, .f32⟩
  | .hbm, ⟨36, _⟩ => ⟨S16x2048x4, .f32⟩
  | .hbm, ⟨37, _⟩ => ⟨S16x2048x4x1, .f32⟩
  | .hbm, ⟨38, _⟩ => ⟨S_, .f32⟩
  | .hbm, ⟨39, _⟩ => ⟨S16x2048x4x1, .f32⟩
  | .hbm, ⟨40, _⟩ => ⟨S16x2048x4x1, .f32⟩
  | .hbm, ⟨41, _⟩ => ⟨S_, .f32⟩
  | .hbm, ⟨42, _⟩ => ⟨S16x2048x4x1, .f32⟩
  | .hbm, ⟨43, _⟩ => ⟨S16x2048x4x1, .f32⟩
  | .hbm, ⟨44, _⟩ => ⟨S16x2048x4x1, .f32⟩
  | .hbm, ⟨45, _⟩ => ⟨S16x2048x4x128, .f32⟩
  | .hbm, ⟨46, _⟩ => ⟨S16x2048x4x128, .f32⟩
  | .hbm, ⟨47, _⟩ => ⟨S1x1x1x128, .f32⟩
  | .hbm, ⟨48, _⟩ => ⟨S16x2048x4x128, .f32⟩
  | .hbm, ⟨49, _⟩ => ⟨S16x2048x4x128, .f32⟩
  | .hbm, ⟨50, _⟩ => ⟨S16x4x2048x256, .f32⟩
  | .hbm, ⟨51, _⟩ => ⟨S_, .f32⟩
  | .hbm, ⟨52, _⟩ => ⟨S16x4x2048x256, .f32⟩
  | .hbm, ⟨53, _⟩ => ⟨S16x4x2048x256, .f32⟩
  | .hbm, ⟨54, _⟩ => ⟨S_, .f32⟩
  | .hbm, ⟨55, _⟩ => ⟨S16x4x2048, .f32⟩
  | .hbm, ⟨56, _⟩ => ⟨S_, .f32⟩
  | .hbm, ⟨57, _⟩ => ⟨S16x4x2048, .f32⟩
  | .hbm, ⟨58, _⟩ => ⟨S16x4x2048, .f32⟩
  | .hbm, ⟨59, _⟩ => ⟨S16x4x2048x1, .f32⟩
  | .hbm, ⟨60, _⟩ => ⟨S16x4x2048x256, .f32⟩
  | .hbm, ⟨61, _⟩ => ⟨S16x4x2048x256, .f32⟩
  | .hbm, ⟨62, _⟩ => ⟨S16x4x2048x256, .f32⟩
  | .hbm, ⟨63, _⟩ => ⟨S_, .f32⟩
  | .hbm, ⟨64, _⟩ => ⟨S16x4x2048, .f32⟩
  | .hbm, ⟨65, _⟩ => ⟨S16x4x2048x1, .f32⟩
  | .hbm, ⟨66, _⟩ => ⟨S16x4x2048x256, .f32⟩
  | .hbm, ⟨67, _⟩ => ⟨S16x4x2048x256, .f32⟩
  | .hbm, ⟨68, _⟩ => ⟨S16x4x128x2048, .f32⟩
  | .hbm, ⟨69, _⟩ => ⟨S16x2048x4x128, .f32⟩
  | .hbm, ⟨70, _⟩ => ⟨S16x2048x512, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S_, .f32⟩
  | .hbm, ⟨75, _⟩ => ⟨S16x2048, .f32⟩
  | .hbm, ⟨76, _⟩ => ⟨S16x2048x1, .f32⟩
  | .hbm, ⟨77, _⟩ => ⟨S_, .f32⟩
  | .hbm, ⟨78, _⟩ => ⟨S16x2048x1, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S16x2048x1, .f32⟩
  | .hbm, ⟨84, _⟩ => ⟨S16x2048x1024, .f32⟩
  | .hbm, ⟨85, _⟩ => ⟨S16x2048x1024, .f32⟩
  | .hbm, ⟨86, _⟩ => ⟨S1x1x1024, .f32⟩
  | .hbm, ⟨87, _⟩ => ⟨S16x2048x1024, .f32⟩
  | .hbm, ⟨88, _⟩ => ⟨S16x2048x1024, .f32⟩
  | .hbm, ⟨89, _⟩ => ⟨S16x2048x4096, .f32⟩
  | .hbm, ⟨90, _⟩ => ⟨S_, .f32⟩
  | .hbm, ⟨91, _⟩ => ⟨S16x2048x4096, .f32⟩
  | .hbm, ⟨92, _⟩ => ⟨S16x2048x4096, .f32⟩
  | .hbm, ⟨93, _⟩ => ⟨S16x2048x4096, .f32⟩
  | .hbm, ⟨94, _⟩ => ⟨S16x2048x1024, .f32⟩
  | .hbm, ⟨95, _⟩ => ⟨S16x2048x1024, .f32⟩
  | .hbm, ⟨96, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call0_cst : Ref sig .tc := ⟨.hbm, 90, rfl⟩
abbrev main_call0_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel3.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S4096x1024 : Shape := ⟨2, ![4096, 1024]⟩
abbrev S1x1024 : Shape := ⟨2, ![1, 1024]⟩
abbrev S1x128 : Shape := ⟨2, ![1, 128]⟩
abbrev S4096x512 : Shape := ⟨2, ![4096, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4096x1024, .f32⟩
  | .hbm, ⟨5, _⟩ => ⟨S1x1024, .f32⟩
  | .hbm, ⟨6, _⟩ => ⟨S1024x1024, .bf16⟩
  | .hbm, ⟨7, _⟩ => ⟨S1x128, .f32⟩
  | .hbm, ⟨8, _⟩ => ⟨S4096x512, .bf16⟩
  | .hbm, ⟨9, _⟩ => ⟨S4096x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x2x4x128 : Shape := ⟨5, ![16, 256, 2, 4, 128]⟩
abbrev S16x256x1x4x128 : Shape := ⟨5, ![16, 256, 1, 4, 128]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S4096x512 : Shape := ⟨2, ![4096, 512]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S16x256x1024, .f32⟩
  | .hbm, ⟨21, _⟩ => ⟨S16x256x2x4x128, .f32⟩
  | .hbm, ⟨22, _⟩ => ⟨S16x256x1x4x128, .f32⟩
  | .hbm, ⟨23, _⟩ => ⟨S16x256x4x128, .f32⟩
  | .hbm, ⟨24, _⟩ => ⟨S16x256x4x128, .f32⟩
  | .hbm, ⟨25, _⟩ => ⟨S_, .f32⟩
  | .hbm, ⟨26, _⟩ => ⟨S16x256x4, .f32⟩
  | .hbm, ⟨27, _⟩ => ⟨S16x256x4x1, .f32⟩
  | .hbm, ⟨28, _⟩ => ⟨S_, .f32⟩
  | .hbm, ⟨29, _⟩ => ⟨S16x256x4x1, .f32⟩
  | .hbm, ⟨30, _⟩ => ⟨S16x256x4x1, .f32⟩
  | .hbm, ⟨31, _⟩ => ⟨S_, .f32⟩
  | .hbm, ⟨32, _⟩ => ⟨S16x256x4x1, .f32⟩
  | .hbm, ⟨33, _⟩ => ⟨S16x256x4x1, .f32⟩
  | .hbm, ⟨34, _⟩ => ⟨S16x256x4x1, .f32⟩
  | .hbm, ⟨35, _⟩ => ⟨S16x256x4x128, .f32⟩
  | .hbm, ⟨36, _⟩ => ⟨S16x256x4x128, .f32⟩
  | .hbm, ⟨37, _⟩ => ⟨S1x1x1x128, .f32⟩
  | .hbm, ⟨38, _⟩ => ⟨S16x256x4x128, .f32⟩
  | .hbm, ⟨39, _⟩ => ⟨S16x256x4x128, .f32⟩
  | .hbm, ⟨40, _⟩ => ⟨S16x256x1x4x128, .f32⟩
  | .hbm, ⟨41, _⟩ => ⟨S16x256x4x128, .f32⟩
  | .hbm, ⟨42, _⟩ => ⟨S4096x512, .f32⟩
  | .hbm, ⟨43, _⟩ => ⟨S4096x512, .bf16⟩
  | .hbm, ⟨44, _⟩ => ⟨S4096x512, .f32⟩
  | .hbm, ⟨45, _⟩ => ⟨S4096x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Math.lean ====
/- Block-wise softmax over the extended reals. A query sees keys `0, 1, 2, …` with scores `s n` and values `v n`; the
   running state after `N` keys is the largest score so far and the sum of the values weighted by powers of two. -/
module

public import Idealize.ShloMosaic.PureOps.Ideal
public import Idealize.ShloMosaic.PureOps.Ideal.Laws
public import Idealize.ShloMosaic.Lib.IdealHost

@[expose] public section

noncomputable section

namespace Cert.Att

open Idealize.ShloMosaic

/-- The largest of the first `N` scores, `⊥` for none. -/
def top (s : ℕ → EReal) (N : ℕ) : EReal := (Finset.range N).sup s

/-- The first `N` values, each weighted by two to the power of its score less the largest one. -/
def wsum (s v : ℕ → EReal) (N : ℕ) : EReal := ∑ n ∈ Finset.range N, v n * Ideal.exp2 (s n - top s N)

/-- A nonnegative real factor goes inside a finite sum of extended reals. -/
theorem coe_mul_sum {ι : Type} (c : ℝ) (hc : 0 ≤ c) (S : Finset ι) (f : ι → EReal) :
    (c : EReal) * ∑ n ∈ S, f n = ∑ n ∈ S, (c : EReal) * f n := by
  classical
  induction S using Finset.induction_on with
  | empty => simp
  | insert a S ha ih =>
    rw [Finset.sum_insert ha, Finset.sum_insert ha, ← ih]
    exact EReal.left_distrib_of_nonneg_of_ne_top (EReal.coe_nonneg.mpr hc) (EReal.coe_ne_top c) _ _

/-- The sum of real numbers, as an extended real. -/
theorem coe_sum {ι : Type} (S : Finset ι) (f : ι → ℝ) : ((∑ n ∈ S, f n : ℝ) : EReal) = ∑ n ∈ S, (f n : EReal) := by
  classical
  induction S using Finset.induction_on with
  | empty => simp
  | insert a S ha ih => rw [Finset.sum_insert ha, Finset.sum_insert ha, ← ih, EReal.coe_add]

/-- Raising the reference point of a weight: the factor that moves it from `m` to `m'`. -/
theorem exp2_shift {x m m' : EReal} (h : x ≤ m) (h' : m ≤ m') :
    Ideal.exp2 (m - m') * Ideal.exp2 (x - m) = Ideal.exp2 (x - m') := by
  induction m using EReal.rec with
  | bot =>
    have hx : x = ⊥ := le_bot_iff.mp h
    subst hx
    simp [sub_eq_add_neg]
  | top =>
    have hm : m' = ⊤ := top_le_iff.mp h'
    subst hm
    simp [sub_eq_add_neg]
  | coe a =>
    induction m' using EReal.rec with
    | bot => exact absurd h' (by simp)
    | top => simp [sub_eq_add_neg]
    | coe b =>
      induction x using EReal.rec with
      | bot => simp [sub_eq_add_neg]
      | top => exact absurd h (by simp)
      | coe x =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (x - a) = (2 : ℝ) ^ (x - b)
        rw [← Real.rpow_add (by norm_num)]
        congr 1; ring

/-- That factor is a nonnegative real number. -/
theorem exp2_sub_real {m m' : EReal} (h : m ≤ m') : ∃ c : ℝ, 0 ≤ c ∧ Ideal.exp2 (m - m') = (c : EReal) := by
  induction m using EReal.rec with
  | bot => exact ⟨0, le_rfl, by simp [sub_eq_add_neg]⟩
  | top =>
    have hm : m' = ⊤ := top_le_iff.mp h
    subst hm
    exact ⟨0, le_rfl, by simp [sub_eq_add_neg]⟩
  | coe a =>
    induction m' using EReal.rec with
    | bot => exact absurd h (by simp)
    | top => exact ⟨0, le_rfl, by simp [sub_eq_add_neg]⟩
    | coe b => exact ⟨_, (Real.rpow_pos_of_pos (x := 2) (by norm_num) (a - b)).le, by rw [← EReal.coe_sub, Ideal.exp2_coe]; rfl⟩

/-- The running maximum grows with the number of keys seen. -/
theorem top_mono (s : ℕ → EReal) {N N' : ℕ} (h : N ≤ N') : top s N ≤ top s N' :=
  Finset.sup_mono (Finset.range_mono h)

/-- Every score seen is at most the running maximum. -/
theorem le_top (s : ℕ → EReal) {n N : ℕ} (h : n < N) : s n ≤ top s N :=
  Finset.le_sup (f := s) (Finset.mem_range.mpr h)

/-- A maximum taken from `⊥` over a block of scores is the supremum of the block. -/
theorem fold_max_eq {B : ℕ} (f : Fin B → EReal) : Finset.fold max ⊥ f Finset.univ = Finset.univ.sup f := rfl

/-- The largest score after one more block. -/
theorem top_add (s : ℕ → EReal) (N B : ℕ) :
    max (top s N) (Finset.fold max ⊥ (fun x : Fin B => s (N + x.val)) Finset.univ) = top s (N + B) := by
  rw [fold_max_eq]
  apply le_antisymm
  · refine max_le (top_mono s (Nat.le_add_right N B)) (Finset.sup_le fun x _ => le_top s (by omega))
  · refine Finset.sup_le fun n hn => ?_
    rcases Nat.lt_or_ge n N with h | h
    · exact (le_top s h).trans (le_max_left _ _)
    · have hB : n - N < B := by have := Finset.mem_range.mp hn; omega
      refine le_trans ?_ (le_max_right _ _)
      have := Finset.le_sup (f := fun x : Fin B => s (N + x.val)) (Finset.mem_univ ⟨n - N, hB⟩)
      simpa [Nat.add_sub_cancel' h] using this

/-- The weighted sum after one more block: the old sum scaled to the new largest score, plus the block's terms. -/
theorem wsum_add (s v : ℕ → EReal) (N B : ℕ) :
    Ideal.exp2 (top s N - top s (N + B)) * wsum s v N
        + ∑ x : Fin B, v (N + x.val) * Ideal.exp2 (s (N + x.val) - top s (N + B))
      = wsum s v (N + B) := by
  have hle := top_mono s (Nat.le_add_right N B)
  obtain ⟨c, hc, he⟩ := exp2_sub_real hle
  have h1 : Ideal.exp2 (top s N - top s (N + B)) * wsum s v N
      = ∑ n ∈ Finset.range N, v n * Ideal.exp2 (s n - top s (N + B)) := by
    unfold wsum
    rw [he, coe_mul_sum c hc]
    refine Finset.sum_congr rfl fun n hn => ?_
    rw [← he, mul_left_comm, exp2_shift (le_top s (Finset.mem_range.mp hn)) hle]
  rw [h1]
  unfold wsum
  rw [Finset.sum_range_add, Finset.sum_range (fun x => v (N + x) * Ideal.exp2 (s (N + x) - top s (N + B)))]

/-- Before any key the maximum is minus infinity. -/
theorem top_zero (s : ℕ → EReal) : top s 0 = ⊥ := rfl
/-- Before any key the weighted sum is zero. -/
theorem wsum_zero (s v : ℕ → EReal) : wsum s v 0 = 0 := rfl

/-- Scores seen by a query at position `p`: real at keys up to `p`, `⊥` after. -/
def masked (T : ℕ → ℝ) (p : ℕ) (n : ℕ) : EReal := if n ≤ p then (T n : EReal) else ⊥

/-- The largest masked score over at least the first `p + 1` keys is a real number that does not depend on how many. -/
theorem top_masked (T : ℕ → ℝ) (p : ℕ) : ∃ M : ℝ, ∀ N, p < N → top (masked T p) N = (M : EReal) := by
  have hne : (Finset.range (p + 1)).Nonempty := ⟨0, by simp⟩
  obtain ⟨a, ha, hmax⟩ := Finset.exists_max_image (Finset.range (p + 1)) T hne
  refine ⟨T a, fun N hN => le_antisymm (Finset.sup_le fun n _ => ?_) ?_⟩
  · unfold masked
    split_ifs with h
    · exact EReal.coe_le_coe_iff.mpr (hmax n (Finset.mem_range.mpr (by omega)))
    · exact bot_le
  · have ha' : a ≤ p := by have := Finset.mem_range.mp ha; omega
    have := le_top (masked T p) (n := a) (N := N) (by omega)
    rwa [masked, if_pos ha'] at this

/-- Scaling every score by a positive number scales the largest. -/
theorem top_scale (T : ℕ → ℝ) (p : ℕ) (κ : ℝ) (hκ : 0 < κ) (M : ℝ) (N N' : ℕ) (hN : p < N) (hN' : p < N')
    (hM : top (masked T p) N = (M : EReal)) : top (masked (fun n => T n * κ) p) N' = ((M * κ : ℝ) : EReal) := by
  obtain ⟨M', hM'⟩ := top_masked T p
  have e : M' = M := EReal.coe_eq_coe_iff.mp ((hM' N hN).symm.trans hM)
  subst e
  apply le_antisymm
  · refine Finset.sup_le fun n _ => ?_
    unfold masked
    split_ifs with h
    · have h1 := le_top (masked T p) (n := n) (N := N) (by omega)
      rw [hM, masked, if_pos h] at h1
      exact EReal.coe_le_coe_iff.mpr (mul_le_mul_of_nonneg_right (EReal.coe_le_coe_iff.mp h1) hκ.le)
    · exact bot_le
  · have hne : (Finset.range (p + 1)).Nonempty := ⟨0, by simp⟩
    obtain ⟨a, ha, hmax⟩ := Finset.exists_max_image (Finset.range (p + 1)) T hne
    have ha' : a ≤ p := by have := Finset.mem_range.mp ha; omega
    have hle : M' ≤ T a := by
      rw [← EReal.coe_le_coe_iff, ← hM]
      refine Finset.sup_le fun n _ => ?_
      unfold masked
      split_ifs with h
      · exact EReal.coe_le_coe_iff.mpr (hmax n (Finset.mem_range.mpr (by omega)))
      · exact bot_le
    have := le_top (masked (fun n => T n * κ) p) (n := a) (N := N') (by omega)
    rw [masked, if_pos ha'] at this
    exact (EReal.coe_le_coe_iff.mpr (mul_le_mul_of_nonneg_right hle hκ.le)).trans this

/-- Block-wise weights in powers of two are the softmax's weights: the quotient of the two weighted sums over the first
    `N` keys is the sum over all `W` keys of the softmax weights times the values. -/
theorem quotient_eq (T : ℕ → ℝ) (p N W : ℕ) (hN : p < N) (hW : p < W) (v : ℕ → EReal) :
    Ideal.div (wsum (masked (fun n => T n * (1 / Real.log 2)) p) v N) (wsum (masked (fun n => T n * (1 / Real.log 2)) p) (fun _ => 1) N)
      = ∑ n ∈ Finset.range W, Ideal.div (Ideal.exp (masked T p n - top (masked T p) W))
          (∑ k ∈ Finset.range W, Ideal.exp (masked T p k - top (masked T p) W)) * v n := by
  have hlog : 0 < Real.log 2 := Real.log_pos (by norm_num)
  have hκ : 0 < 1 / Real.log 2 := by positivity
  obtain ⟨M, hM⟩ := top_masked T p
  have hs := top_scale T p (1 / Real.log 2) hκ M W N hW hN (hM W hW)
  -- the weight of key `n` as a real number
  let e : ℕ → ℝ := fun n => if n ≤ p then Real.exp (T n - M) else 0
  have he0 : ∀ n, 0 ≤ e n := fun n => by
    simp only [e]; split_ifs
    · exact (Real.exp_pos _).le
    · exact le_rfl
  have heR : ∀ n, Ideal.exp (masked T p n - top (masked T p) W) = (e n : EReal) := fun n => by
    rw [hM W hW]; unfold masked; simp only [e]
    split_ifs with h
    · rw [← EReal.coe_sub, Ideal.exp_coe]
    · simp [sub_eq_add_neg]
  have heK : ∀ n, Ideal.exp2 (masked (fun n => T n * (1 / Real.log 2)) p n - top (masked (fun n => T n * (1 / Real.log 2)) p) N) = (e n : EReal) := fun n => by
    rw [hs]; unfold masked; simp only [e]
    split_ifs with h
    · rw [← EReal.coe_sub, Ideal.exp2_coe]
      congr 1
      show (2 : ℝ) ^ (T n * (1 / Real.log 2) - M * (1 / Real.log 2)) = _
      rw [Real.rpow_def_of_pos (by norm_num)]
      congr 1
      field_simp
    · simp [sub_eq_add_neg]
  have hz : ∀ n, p < n → e n = 0 := fun n hn => by simp only [e]; rw [if_neg (by omega)]
  -- the sums do not see keys after the query
  have hcut : ∀ (f : ℕ → EReal), (∀ n, p < n → f n = 0) → ∀ K, p < K → ∑ n ∈ Finset.range K, f n = ∑ n ∈ Finset.range (p + 1), f n :=
    fun f hf K hK => (Finset.sum_subset (Finset.range_mono (by omega)) fun n _ hn => hf n (by
      have := mt Finset.mem_range.mpr hn; omega)).symm
  let L : ℝ := ∑ n ∈ Finset.range (p + 1), e n
  have hL : 0 < L := by
    have h0 : e 0 ≤ L := Finset.single_le_sum (f := e) (fun n _ => he0 n) (Finset.mem_range.mpr (by omega))
    have : 0 < e 0 := by simp only [e]; rw [if_pos (Nat.zero_le _)]; exact Real.exp_pos _
    linarith
  have hsumR : ∑ k ∈ Finset.range W, Ideal.exp (masked T p k - top (masked T p) W) = (L : EReal) := by
    simp only [heR]
    rw [hcut _ (fun n hn => by rw [hz n hn]; rfl) W hW, ← coe_sum]
  have hsumK : wsum (masked (fun n => T n * (1 / Real.log 2)) p) (fun _ => 1) N = (L : EReal) := by
    unfold wsum
    simp only [heK, one_mul]
    rw [hcut _ (fun n hn => by rw [hz n hn]; rfl) N hN, ← coe_sum]
  rw [hsumR, hsumK, Ideal.div_coe hL.ne']
  unfold wsum
  simp only [heK, heR]
  rw [hcut (fun n => v n * (e n : EReal)) (fun n hn => by simp [hz n hn]) N hN,
    hcut (fun n => Ideal.div (e n : EReal) (L : EReal) * v n) (fun n hn => by
      rw [Ideal.div_coe hL.ne', hz n hn]; simp) W hW,
    mul_comm, coe_mul_sum _ (by positivity)]
  refine Finset.sum_congr rfl fun n _ => ?_
  rw [Ideal.div_coe hL.ne', mul_left_comm, mul_comm (v n), mul_comm (e n : EReal)]

end Cert.Att

end
-- ==== Proof.Body.lean ====
/- One key block of the attention kernel as it acts on the running state: the carried largest scores (one row per head)
   and the accumulator (per head, 128 rows of weighted values and 16 rows of weights). -/
module

public import proofs.«01_k».proof.Proof.Gen.KernelIdeal.Frame
public import proofs.«01_k».proof.Proof.Math
public import Idealize.ShloMosaic.Lib.Pointwise
public import Idealize.ShloMosaic.Lib.WritesUnit
public import Idealize.ShloMosaic.Lib.Pipeline.Value

@[expose] public section

noncomputable section

namespace Cert.Att

open Cert.KernelIdeal Cert.KernelIdeal.Gen Idealize.ShloMosaic Idealize.ShloMosaic.TcCoe

/-- The carried value: per head, a row of largest scores. -/
abbrev Carry := FVec Ideal S1x256 .f32 × FVec Ideal S1x256 .f32 × FVec Ideal S1x256 .f32 × FVec Ideal S1x256 .f32

/-- Head `h`'s row of the carried value. -/
def Carry.at (m : Carry) : Fin 4 → FVec Ideal S1x256 .f32 := ![m.1, m.2.1, m.2.2.1, m.2.2.2]

/-- Scores of a diagonal block: key row `j` is seen by query column `c` when `j ≤ c`. -/
def diagMask (s : FVec Ideal S256x256 .f32) : FVec Ideal S256x256 .f32 :=
  select (cmpi .sle (iota .tc S256x256 32 [0] iota_S256x256_d0_w32) (iota .tc S256x256 32 [1] iota_S256x256_d1_w32)) s
    (broadcast S256x256 (Scalar.ofBits (F := Ideal) .f32 0xFF800000#32) : FVec Ideal S256x256 .f32)

/-- The literal of the initial maximum is minus infinity. -/
theorem ofBits_neg_inf : Ideal.ofBits .f32 0xFF800000#32 = (⊥ : EReal) := by simp [Ideal.ofBits, Ideal.ieee]

/-- A score tile entry is the inner product of a key row and a query row. -/
theorem pay2_apply (k q : Vec Ideal S256x256 .bf16) (j c : Fin 256) :
    k0_pay2 k q (ix2 j c) = ∑ l : Fin 256, k (ix2 j l) * q (ix2 c l) := by
  unfold k0_pay2
  pointwise

/-- The new maximum of a query column: the old one against the tile's column. -/
theorem pay10_apply (m : FVec Ideal S1x256 .f32) (s : FVec Ideal S256x256 .f32) (c : Fin 256) :
    k0_pay10 m s (ix2 0 c) = max (m (ix2 0 c)) (Finset.fold max ⊥ (fun x => s (ix2 x c)) Finset.univ) := by
  unfold k0_pay10
  pointwise
  rw [ofBits_neg_inf]

/-- The weighted values of one key tile, with the weights relative to the maximum. -/
theorem pay11_apply (v0 : FVec Ideal S16x256 .bf16) (m : FVec Ideal S1x256 .f32) (s : FVec Ideal S256x256 .f32)
    (vt : Vec Ideal S128x256 .bf16) (a : Vec Ideal S1x144x256 .f32) (r : Fin 144) (c : Fin 256) :
    k0_pay11 (F := Ideal) v0 m s vt a (ix3 0 r c)
      = Ideal.exp2 (m (ix2 0 c) - k0_pay10 m s (ix2 0 c)) * a (ix3 0 r c)
        + ∑ x : Fin 256, (if h : r.val < 128 then vt (ix2 ⟨r.val, h⟩ x) else v0 (ix2 ⟨r.val - 128, by omega⟩ x))
            * Ideal.exp2 (s (ix2 x c) - k0_pay10 m s (ix2 0 c)) := by
  unfold k0_pay11
  pointwise
  rfl

/-- The block of ones appended to the values. -/
theorem pay114_apply (i : S16x256.Idx) : k0_pay114 (F := Ideal) i = 1 := by
  unfold k0_pay114
  exact Ideal.ofBits_one_bf16

/-- Whether row `j` is at most row `c`, as the kernel compares their numbers. -/
theorem sle_word (j c : Fin 256) : IntOp.cmpi .sle (BitVec.ofNat 32 j.val) (BitVec.ofNat 32 c.val) = if j ≤ c then 1#1 else 0#1 := by
  have hv : ∀ x : Fin 256, (BitVec.ofNat 32 x.val).toInt = (x.val : Int) := fun x => by
    have hx : (BitVec.ofNat 32 x.val).toNat = x.val := by rw [BitVec.toNat_ofNat]; omega
    rw [BitVec.toInt_eq_toNat_of_lt (by rw [hx]; omega), hx]
  show BitVec.ofBool (BitVec.sle (BitVec.ofNat 32 j.val) (BitVec.ofNat 32 c.val)) = _
  unfold BitVec.sle
  rw [hv, hv]
  by_cases h : j ≤ c
  · rw [if_pos h, decide_eq_true (by exact_mod_cast h)]; rfl
  · rw [if_neg h, decide_eq_false (by exact_mod_cast h)]; rfl

/-- The diagonal tile keeps the scores of keys not after the query and drops the rest to minus infinity. -/
theorem diagMask_apply (s : FVec Ideal S256x256 .f32) (j c : Fin 256) :
    diagMask s (ix2 j c) = if j ≤ c then s (ix2 j c) else ⊥ := by
  unfold diagMask
  pointwise
  rw [sle_word, ofBits_neg_inf]
  split_ifs with h <;> simp [Scalar.select]

/-- One block, one head: the row of largest scores and the accumulator go from `N` keys to `N + 256`. -/
theorem head_step (S : Fin 256 → ℕ → EReal) (V : Fin 144 → ℕ → EReal) (N : ℕ)
    (m : FVec Ideal S1x256 .f32) (s : FVec Ideal S256x256 .f32) (vt : Vec Ideal S128x256 .bf16) (a : Vec Ideal S1x144x256 .f32)
    (hm : ∀ c, m (ix2 0 c) = top (S c) N) (ha : ∀ r c, a (ix3 0 r c) = wsum (S c) (V r) N)
    (hs : ∀ j c : Fin 256, s (ix2 j c) = S c (N + j.val))
    (hv : ∀ (r : Fin 144) (h : r.val < 128) (j : Fin 256), vt (ix2 ⟨r.val, h⟩ j) = V r (N + j.val))
    (h1 : ∀ (r : Fin 144), ¬ r.val < 128 → ∀ n, V r n = 1) :
    (∀ c, k0_pay10 m s (ix2 0 c) = top (S c) (N + 256))
      ∧ ∀ r c, k0_pay11 (F := Ideal) k0_pay114 m s vt a (ix3 0 r c) = wsum (S c) (V r) (N + 256) := by
  have h10 : ∀ c, k0_pay10 m s (ix2 0 c) = top (S c) (N + 256) := fun c => by
    rw [pay10_apply, hm, ← top_add]
    simp only [hs]
  refine ⟨h10, fun r c => ?_⟩
  rw [pay11_apply, h10, hm, ha, ← wsum_add]
  congr 1
  refine Finset.sum_congr rfl fun x _ => ?_
  rw [hs]
  by_cases h : r.val < 128
  · rw [dif_pos h, hv r h]
  · rw [dif_neg h, h1 r h, pay114_apply]

section View

variable (arg7 : Memref sig .tc .vmem S4x144x256 .f32)

/-- What the accumulator holds at head `h`, row `r`, column `c`. -/
abbrev rd (f : BufTy.Contents (Elt Ideal) arg7.view.ty) (h : Fin 4) (r : Fin 144) (c : Fin 256) : EReal :=
  arg7.view.read (Elt Ideal) f (ix3 h r c)

/-- A head's block written last is read back there, and does not touch the other heads. -/
theorem rd_head (f : BufTy.Contents (Elt Ideal) arg7.view.ty) (n : ℕ)
    (inb : ∀ a, (![n, 0, 0] : Fin 3 → ℕ) a + S1x144x256.size a ≤ S4x144x256.size a) (w : FVec Ideal S1x144x256 .f32)
    (L : List (View.Piece (Elt Ideal) S4x144x256 .f32)) (h : Fin 4) (r : Fin 144) (c : Fin 256) :
    rd arg7 (arg7.view.writes (Elt Ideal) f (⟨Rect.unit (s := S4x144x256) ![n, 0, 0] S1x144x256.size inb, w⟩ :: L)) h r c
      = if h.val = n then w (ix3 0 r c) else rd arg7 (arg7.view.writes (Elt Ideal) f L) h r c := by
  by_cases hn : h.val = n
  · rw [if_pos hn]
    refine View.read_writes_cons_unit_of_mem (off' := ![n, 0, 0]) arg7.view f inb w L (ix3 h r c) (ix3 0 r c) rfl fun a => ?_
    match a with
    | ⟨0, _⟩ => show h.val = n + 0; omega
    | ⟨1, _⟩ => show r.val = 0 + r.val; omega
    | ⟨2, _⟩ => show c.val = 0 + c.val; omega
  · rw [if_neg hn]
    refine View.read_writes_cons_unit_of_not_mem (off' := ![n, 0, 0]) arg7.view f inb w L (ix3 h r c) rfl ⟨0, by decide⟩ ?_
    show h.val < n ∨ n + 1 ≤ h.val
    omega

/-- At the head written last. -/
theorem rd_hit {arg7 : Memref sig .tc .vmem S4x144x256 .f32} {f : BufTy.Contents (Elt Ideal) arg7.view.ty} {n : ℕ}
    {inb : ∀ a, (![n, 0, 0] : Fin 3 → ℕ) a + S1x144x256.size a ≤ S4x144x256.size a} {w : FVec Ideal S1x144x256 .f32}
    {L : List (View.Piece (Elt Ideal) S4x144x256 .f32)} {h : Fin 4} {r : Fin 144} {c : Fin 256} (hn : h.val = n) :
    rd arg7 (arg7.view.writes (Elt Ideal) f (⟨Rect.unit (s := S4x144x256) ![n, 0, 0] S1x144x256.size inb, w⟩ :: L)) h r c = w (ix3 0 r c) :=
  (rd_head arg7 f n inb w L h r c).trans (if_pos hn)

/-- At another head. -/
theorem rd_miss {arg7 : Memref sig .tc .vmem S4x144x256 .f32} {f : BufTy.Contents (Elt Ideal) arg7.view.ty} {n : ℕ}
    {inb : ∀ a, (![n, 0, 0] : Fin 3 → ℕ) a + S1x144x256.size a ≤ S4x144x256.size a} {w : FVec Ideal S1x144x256 .f32}
    {L : List (View.Piece (Elt Ideal) S4x144x256 .f32)} {h : Fin 4} {r : Fin 144} {c : Fin 256} (hn : ¬ h.val = n) :
    rd arg7 (arg7.view.writes (Elt Ideal) f (⟨Rect.unit (s := S4x144x256) ![n, 0, 0] S1x144x256.size inb, w⟩ :: L)) h r c
      = rd arg7 (arg7.view.writes (Elt Ideal) f L) h r c :=
  (rd_head arg7 f n inb w L h r c).trans (if_neg hn)

/-- A load of a head's block. -/
theorem readAt_head (f : BufTy.Contents (Elt Ideal) arg7.view.ty) (n : ℕ) (hn : n < 4)
    (inb : ∀ a, (![n, 0, 0] : Fin 3 → ℕ) a + S1x144x256.size a ≤ S4x144x256.size a) (r : Fin 144) (c : Fin 256) :
    arg7.view.readAt (Elt Ideal) (Rect.unit (s := S4x144x256) ![n, 0, 0] S1x144x256.size inb).toLoadRect f (ix3 0 r c) = rd arg7 f ⟨n, hn⟩ r c := by
  rw [View.readAt_eq_ld]
  refine congrArg (arg7.view.read (Elt Ideal) f) (funext fun a => Fin.ext ?_)
  match a with
  | ⟨0, _⟩ => show n + 1 * 0 = n; omega
  | ⟨1, _⟩ => show 0 + 1 * r.val = r.val; omega
  | ⟨2, _⟩ => show 0 + 1 * c.val = c.val; omega

/-- The state after `N` keys: carried rows and accumulator. -/
def Inv (S : Fin 4 → Fin 256 → ℕ → EReal) (V : Fin 4 → Fin 144 → ℕ → EReal) (N : ℕ) (m : Carry)
    (f : BufTy.Contents (Elt Ideal) arg7.view.ty) : Prop :=
  ∀ h : Fin 4, (∀ c, m.at h (ix2 0 c) = top (S h c) N) ∧ ∀ r c, rd arg7 f h r c = wsum (S h c) (V h r) N

/-- The carried rows one block later. -/
def nextM (m : Carry) (s : Fin 4 → FVec Ideal S256x256 .f32) : Carry :=
  (k0_pay10 m.1 (s 0), k0_pay10 m.2.1 (s 1), k0_pay10 m.2.2.1 (s 2), k0_pay10 m.2.2.2 (s 3))

/-- What a block stores: every head's accumulator, last head first. -/
def nextP (m : Carry) (s : Fin 4 → FVec Ideal S256x256 .f32) (vt : Fin 4 → Vec Ideal S128x256 .bf16)
    (f : BufTy.Contents (Elt Ideal) arg7.view.ty) : List (View.Piece (Elt Ideal) S4x144x256 .f32) :=
  [⟨Rect.unit (s := S4x144x256) ![3, 0, 0] S1x144x256.size inb_S4x144x256_S1x144x256_3_0_0, k0_pay11 (F := Ideal) k0_pay114 m.2.2.2 (s 3) (vt 3)
      (arg7.view.readAt (Elt Ideal) (Rect.unit (s := S4x144x256) ![3, 0, 0] S1x144x256.size inb_S4x144x256_S1x144x256_3_0_0).toLoadRect f)⟩,
   ⟨Rect.unit (s := S4x144x256) ![2, 0, 0] S1x144x256.size inb_S4x144x256_S1x144x256_2_0_0, k0_pay11 (F := Ideal) k0_pay114 m.2.2.1 (s 2) (vt 2)
      (arg7.view.readAt (Elt Ideal) (Rect.unit (s := S4x144x256) ![2, 0, 0] S1x144x256.size inb_S4x144x256_S1x144x256_2_0_0).toLoadRect f)⟩,
   ⟨Rect.unit (s := S4x144x256) ![1, 0, 0] S1x144x256.size inb_S4x144x256_S1x144x256_1_0_0, k0_pay11 (F := Ideal) k0_pay114 m.2.1 (s 1) (vt 1)
      (arg7.view.readAt (Elt Ideal) (Rect.unit (s := S4x144x256) ![1, 0, 0] S1x144x256.size inb_S4x144x256_S1x144x256_1_0_0).toLoadRect f)⟩,
   ⟨Rect.unit (s := S4x144x256) ![0, 0, 0] S1x144x256.size inb_S4x144x256_S1x144x256_0_0_0, k0_pay11 (F := Ideal) k0_pay114 m.1 (s 0) (vt 0)
      (arg7.view.readAt (Elt Ideal) (Rect.unit (s := S4x144x256) ![0, 0, 0] S1x144x256.size inb_S4x144x256_S1x144x256_0_0_0).toLoadRect f)⟩]

variable {arg7}

/-- One head of a block, from the state before it. -/
theorem Inv.head {S : Fin 4 → Fin 256 → ℕ → EReal} {V : Fin 4 → Fin 144 → ℕ → EReal} {N : ℕ} {m : Carry}
    {f : BufTy.Contents (Elt Ideal) arg7.view.ty} (H : Inv arg7 S V N m f)
    (s : FVec Ideal S256x256 .f32) (vt : Vec Ideal S128x256 .bf16) (h : Fin 4)
    (hs : ∀ j c : Fin 256, s (ix2 j c) = S h c (N + j.val))
    (hv : ∀ (r : Fin 144) (hr : r.val < 128) (j : Fin 256), vt (ix2 ⟨r.val, hr⟩ j) = V h r (N + j.val))
    (h1 : ∀ (h : Fin 4) (r : Fin 144), ¬ r.val < 128 → ∀ n, V h r n = 1)
    (a : Vec Ideal S1x144x256 .f32) (ha : ∀ r c, a (ix3 0 r c) = rd arg7 f h r c) :
    (∀ c, k0_pay10 (m.at h) s (ix2 0 c) = top (S h c) (N + 256))
      ∧ ∀ r c, k0_pay11 (F := Ideal) k0_pay114 (m.at h) s vt a (ix3 0 r c) = wsum (S h c) (V h r) (N + 256) :=
  head_step (S h) (V h) N (m.at h) s vt a (H h).1 (fun r c => (ha r c).trans ((H h).2 r c)) hs hv (h1 h)

/-- One block takes the state from `N` keys to `N + 256`. -/
theorem Inv.step {S : Fin 4 → Fin 256 → ℕ → EReal} {V : Fin 4 → Fin 144 → ℕ → EReal} {N : ℕ} {m : Carry}
    {f : BufTy.Contents (Elt Ideal) arg7.view.ty} (H : Inv arg7 S V N m f)
    (s : Fin 4 → FVec Ideal S256x256 .f32) (vt : Fin 4 → Vec Ideal S128x256 .bf16)
    (hs : ∀ (h : Fin 4) (j c : Fin 256), s h (ix2 j c) = S h c (N + j.val))
    (hv : ∀ (h : Fin 4) (r : Fin 144) (hr : r.val < 128) (j : Fin 256), vt h (ix2 ⟨r.val, hr⟩ j) = V h r (N + j.val))
    (h1 : ∀ (h : Fin 4) (r : Fin 144), ¬ r.val < 128 → ∀ n, V h r n = 1) :
    Inv arg7 S V (N + 256) (nextM m s) (arg7.view.writes (Elt Ideal) f (nextP arg7 m s vt f)) := by
  intro h
  match h with
  | 0 =>
    have e := H.head (s 0) (vt 0) 0 (hs 0) (hv 0) h1 _
      fun r c => readAt_head arg7 f 0 (by decide) inb_S4x144x256_S1x144x256_0_0_0 r c
    exact ⟨e.1, fun r c => ((rd_miss (n := 3) (h := 0) (by decide)).trans ((rd_miss (n := 2) (h := 0) (by decide)).trans ((rd_miss (n := 1) (h := 0) (by decide)).trans (rd_hit (n := 0) (h := 0) rfl)))).trans (e.2 r c)⟩
  | 1 =>
    have e := H.head (s 1) (vt 1) 1 (hs 1) (hv 1) h1 _
      fun r c => readAt_head arg7 f 1 (by decide) inb_S4x144x256_S1x144x256_1_0_0 r c
    exact ⟨e.1, fun r c => ((rd_miss (n := 3) (h := 1) (by decide)).trans ((rd_miss (n := 2) (h := 1) (by decide)).trans (rd_hit (n := 1) (h := 1) rfl))).trans (e.2 r c)⟩
  | 2 =>
    have e := H.head (s 2) (vt 2) 2 (hs 2) (hv 2) h1 _
      fun r c => readAt_head arg7 f 2 (by decide) inb_S4x144x256_S1x144x256_2_0_0 r c
    exact ⟨e.1, fun r c => ((rd_miss (n := 3) (h := 2) (by decide)).trans (rd_hit (n := 2) (h := 2) rfl)).trans (e.2 r c)⟩
  | 3 =>
    have e := H.head (s 3) (vt 3) 3 (hs 3) (hv 3) h1 _
      fun r c => readAt_head arg7 f 3 (by decide) inb_S4x144x256_S1x144x256_3_0_0 r c
    exact ⟨e.1, fun r c => (rd_hit (n := 3) (h := 3) rfl).trans (e.2 r c)⟩

/-- A loop of such blocks, listed: `st k` is the carried value and the pieces stored before block `k`. -/
theorem Inv.loop {S : Fin 4 → Fin 256 → ℕ → EReal} {V : Fin 4 → Fin 144 → ℕ → EReal}
    {G : BufTy.Contents (Elt Ideal) arg7.view.ty} {init : Carry} {n : ℕ}
    (st : ℕ → Carry × List (View.Piece (Elt Ideal) S4x144x256 .f32)) (h0 : st 0 = (init, []))
    (s : ℕ → Fin 4 → FVec Ideal S256x256 .f32) (vt : ℕ → Fin 4 → Vec Ideal S128x256 .bf16)
    (hst : ∀ k, k < n → st (k + 1) = (nextM (st k).1 (s k),
      nextP arg7 (st k).1 (s k) (vt k) (arg7.view.writes (Elt Ideal) G (st k).2) ++ (st k).2))
    (H : Inv arg7 S V 0 init G)
    (hs : ∀ k, k < n → ∀ (h : Fin 4) (j c : Fin 256), s k h (ix2 j c) = S h c (256 * k + j.val))
    (hv : ∀ k, k < n → ∀ (h : Fin 4) (r : Fin 144) (hr : r.val < 128) (j : Fin 256),
      vt k h (ix2 ⟨r.val, hr⟩ j) = V h r (256 * k + j.val))
    (h1 : ∀ (h : Fin 4) (r : Fin 144), ¬ r.val < 128 → ∀ n, V h r n = 1) :
    ∀ k, k ≤ n → Inv arg7 S V (256 * k) (st k).1 (arg7.view.writes (Elt Ideal) G (st k).2) := by
  intro k
  induction k with
  | zero => intro _; rw [h0]; exact H
  | succ k ih =>
    intro hk
    rw [hst k (by omega), View.writes_append]
    exact (ih (by omega)).step (s k) (vt k) (hs k (by omega)) (hv k (by omega)) h1

/-- The last block's store for one head, over what was stored before. -/
def headPiece (arg7 : Memref sig .tc .vmem S4x144x256 .f32) (n : ℕ) (inb : ∀ a, (![n, 0, 0] : Fin 3 → ℕ) a + S1x144x256.size a ≤ S4x144x256.size a)
    (m : FVec Ideal S1x256 .f32) (s : FVec Ideal S256x256 .f32) (vt : Vec Ideal S128x256 .bf16) (L : List (View.Piece (Elt Ideal) S4x144x256 .f32)) :
    List (View.Piece (Elt Ideal) S4x144x256 .f32) :=
  ⟨Rect.unit (s := S4x144x256) ![n, 0, 0] S1x144x256.size inb, k0_pay11 (F := Ideal) k0_pay114 m (diagMask s) vt
    (arg7.view.readCov L (Rect.unit (s := S4x144x256) ![n, 0, 0] S1x144x256.size inb).toLoadRect)⟩ :: L

/-- The last block's stores, head by head, read back over what the earlier heads of the same block stored. -/
def diagPieces (arg7 : Memref sig .tc .vmem S4x144x256 .f32) (m : Carry) (s : Fin 4 → FVec Ideal S256x256 .f32)
    (vt : Fin 4 → Vec Ideal S128x256 .bf16) (L : List (View.Piece (Elt Ideal) S4x144x256 .f32)) :
    List (View.Piece (Elt Ideal) S4x144x256 .f32) :=
  headPiece arg7 3 inb_S4x144x256_S1x144x256_3_0_0 m.2.2.2 (s 3) (vt 3) (headPiece arg7 2 inb_S4x144x256_S1x144x256_2_0_0 m.2.2.1 (s 2) (vt 2)
    (headPiece arg7 1 inb_S4x144x256_S1x144x256_1_0_0 m.2.1 (s 1) (vt 1) (headPiece arg7 0 inb_S4x144x256_S1x144x256_0_0_0 m.1 (s 0) (vt 0) L)))

/-- After the diagonal block the accumulator holds the sums over `N + 256` keys. -/
theorem Inv.diag {S : Fin 4 → Fin 256 → ℕ → EReal} {V : Fin 4 → Fin 144 → ℕ → EReal} {N : ℕ} {m : Carry}
    {L : List (View.Piece (Elt Ideal) S4x144x256 .f32)} (H : Inv arg7 S V N m (arg7.view.writes (Elt Ideal) arg7.view.junk L))
    (s : Fin 4 → FVec Ideal S256x256 .f32) (vt : Fin 4 → Vec Ideal S128x256 .bf16)
    (hs : ∀ (h : Fin 4) (j c : Fin 256), diagMask (s h) (ix2 j c) = S h c (N + j.val))
    (hv : ∀ (h : Fin 4) (r : Fin 144) (hr : r.val < 128) (j : Fin 256), vt h (ix2 ⟨r.val, hr⟩ j) = V h r (N + j.val))
    (h1 : ∀ (h : Fin 4) (r : Fin 144), ¬ r.val < 128 → ∀ n, V h r n = 1) (h : Fin 4) (r : Fin 144) (c : Fin 256) :
    rd arg7 (arg7.view.writes (Elt Ideal) arg7.view.junk (diagPieces arg7 m s vt L)) h r c = wsum (S h c) (V h r) (N + 256) := by
  match h with
  | 0 =>
    exact ((rd_miss (n := 3) (h := 0) (by decide)).trans ((rd_miss (n := 2) (h := 0) (by decide)).trans ((rd_miss (n := 1) (h := 0) (by decide)).trans (rd_hit (n := 0) (h := 0) rfl)))).trans
      ((H.head (diagMask (s 0)) (vt 0) 0 (hs 0) (hv 0) h1 _ fun r c => readAt_head arg7 _ 0 (by decide) inb_S4x144x256_S1x144x256_0_0_0 r c).2 r c)
  | 1 =>
    exact ((rd_miss (n := 3) (h := 1) (by decide)).trans ((rd_miss (n := 2) (h := 1) (by decide)).trans (rd_hit (n := 1) (h := 1) rfl))).trans
      ((H.head (diagMask (s 1)) (vt 1) 1 (hs 1) (hv 1) h1 _ fun r c => (readAt_head arg7 _ 1 (by decide) inb_S4x144x256_S1x144x256_1_0_0 r c).trans (rd_miss (n := 0) (h := 1) (by decide))).2 r c)
  | 2 =>
    exact ((rd_miss (n := 3) (h := 2) (by decide)).trans (rd_hit (n := 2) (h := 2) rfl)).trans
      ((H.head (diagMask (s 2)) (vt 2) 2 (hs 2) (hv 2) h1 _ fun r c => (readAt_head arg7 _ 2 (by decide) inb_S4x144x256_S1x144x256_2_0_0 r c).trans ((rd_miss (n := 1) (h := 2) (by decide)).trans (rd_miss (n := 0) (h := 2) (by decide)))).2 r c)
  | 3 =>
    exact (rd_hit (n := 3) (h := 3) rfl).trans
      ((H.head (diagMask (s 3)) (vt 3) 3 (hs 3) (hv 3) h1 _ fun r c => (readAt_head arg7 _ 3 (by decide) inb_S4x144x256_S1x144x256_3_0_0 r c).trans ((rd_miss (n := 2) (h := 3) (by decide)).trans ((rd_miss (n := 1) (h := 3) (by decide)).trans (rd_miss (n := 0) (h := 3) (by decide))))).2 r c)

end View

end Cert.Att

end
-- ==== Proof.Blocks.lean ====
/- The blocks of scores and values a query tile of the attention kernel meets, read out of its operands, and the
   accumulator of a tile after all its blocks. -/
module

public import proofs.«01_k».proof.Proof.Body

@[expose] public section

noncomputable section

namespace Cert.Att

open Cert.KernelIdeal Cert.KernelIdeal.Gen Idealize.ShloMosaic Idealize.ShloMosaic.TcCoe

/-- The score of key `n` and query column `c` of tile `t` for head `h`: a product of the packed rows when the key is
    not after the query (`p` is the tile's first query), absent otherwise. -/
def Sc (x0 : FVec Ideal S1024x1024 .bf16) (x1 : FVec Ideal S2048x1024 .bf16) (t : Fin 4) (p : ℕ) (h : Fin 4) (c : Fin 256) (n : ℕ) : EReal :=
  if n ≤ p + c.val then
    ∑ l : Fin 256, x1 (ix2 (Fin.ofNat 2048 n) ⟨256 * h.val + l.val, by omega⟩) * x0 (ix2 ⟨256 * t.val + c.val, by omega⟩ ⟨256 * h.val + l.val, by omega⟩)
  else ⊥

/-- Row `r` of head `h`'s stacked values at key `n`: a value for `r < 128`, one below. -/
def Vv (x2 : FVec Ideal S4096x256 .bf16) (h : Fin 4) (r : Fin 144) (n : ℕ) : EReal :=
  if r.val < 128 then x2 (ix2 (Fin.ofNat 4096 (512 * (n / 256) + 128 * h.val + r.val)) (Fin.ofNat 256 n)) else 1

/-- A store of the whole accumulator is read back. -/
theorem rd_whole (arg7 : Memref sig .tc .vmem S4x144x256 .f32) (f : BufTy.Contents (Elt Ideal) arg7.view.ty)
    (inb : ∀ a, (![0, 0, 0] : Fin 3 → ℕ) a + S4x144x256.size a ≤ S4x144x256.size a) (w : FVec Ideal S4x144x256 .f32)
    (L : List (View.Piece (Elt Ideal) S4x144x256 .f32)) (h : Fin 4) (r : Fin 144) (c : Fin 256) :
    rd arg7 (arg7.view.writes (Elt Ideal) f (⟨Rect.unit (s := S4x144x256) ![0, 0, 0] S4x144x256.size inb, w⟩ :: L)) h r c = w (ix3 h r c) := by
  refine View.read_writes_cons_unit_of_mem (off' := ![0, 0, 0]) arg7.view f inb w L (ix3 h r c) (ix3 h r c) rfl fun a => ?_
  match a with
  | ⟨0, _⟩ => exact (Nat.zero_add _).symm
  | ⟨1, _⟩ => exact (Nat.zero_add _).symm
  | ⟨2, _⟩ => exact (Nat.zero_add _).symm

section Loads

variable {arg2 : Memref sig .tc .vmem S1024x1024 .bf16} {arg3 : Memref sig .tc .vmem S2048x1024 .bf16}
  {arg4 : Memref sig .tc .vmem S4096x256 .bf16}

/-- A block's scores, one product per head, from the loads at the given offsets. -/
def sOf (X2 : BufTy.Contents (Elt Ideal) arg2.view.ty) (X3 : BufTy.Contents (Elt Ideal) arg3.view.ty)
    (ok : Fin 4 → Fin 2 → ℕ) (hk : ∀ h a, ok h a + S256x256.size a ≤ S2048x1024.size a)
    (oq : Fin 4 → Fin 2 → ℕ) (hq : ∀ h a, oq h a + S256x256.size a ≤ S1024x1024.size a) (h : Fin 4) : FVec Ideal S256x256 .f32 :=
  k0_pay2 (View.readAt (Elt Ideal) arg3.view (Rect.unit (s := S2048x1024) (ok h) S256x256.size (hk h)).toLoadRect X3)
    (View.readAt (Elt Ideal) arg2.view (Rect.unit (s := S1024x1024) (oq h) S256x256.size (hq h)).toLoadRect X2)

/-- A block's values, one load per head. -/
def vOf (X4 : BufTy.Contents (Elt Ideal) arg4.view.ty) (ov : Fin 4 → Fin 2 → ℕ)
    (hv : ∀ h a, ov h a + S128x256.size a ≤ S4096x256.size a) (h : Fin 4) : Vec Ideal S128x256 .bf16 :=
  View.readAt (Elt Ideal) arg4.view (Rect.unit (s := S4096x256) (ov h) S128x256.size (hv h)).toLoadRect X4

/-- A load from the key block reads the block at the shifted position. -/
theorem load3 (X3 : BufTy.Contents (Elt Ideal) arg3.view.ty) (x1 : FVec Ideal S2048x1024 .bf16) (e : arg3.view.read (Elt Ideal) X3 = x1)
    (o : Fin 2 → ℕ) (ho : ∀ a, o a + S256x256.size a ≤ S2048x1024.size a) (n h : ℕ) (hn : n < 8) (hh : h < 4) (eo : o = ![256 * n, 256 * h]) (j l : Fin 256) :
    View.readAt (Elt Ideal) arg3.view (Rect.unit (s := S2048x1024) o S256x256.size ho).toLoadRect X3 (ix2 j l)
      = x1 (ix2 (Fin.ofNat 2048 (256 * n + j.val)) ⟨256 * h + l.val, by omega⟩) := by
  subst eo
  rw [View.readAt_eq_ld]
  show arg3.view.read (Elt Ideal) X3 _ = _
  rw [e]
  refine congrArg x1 (funext fun a => Fin.ext ?_)
  match a with
  | ⟨0, _⟩ => show 256 * n + 1 * j.val = (256 * n + j.val) % 2048; omega
  | ⟨1, _⟩ => show 256 * h + 1 * l.val = 256 * h + l.val; omega

/-- A load from the query block reads the block at the shifted position. -/
theorem load2 (X2 : BufTy.Contents (Elt Ideal) arg2.view.ty) (x0 : FVec Ideal S1024x1024 .bf16) (e : arg2.view.read (Elt Ideal) X2 = x0)
    (o : Fin 2 → ℕ) (ho : ∀ a, o a + S256x256.size a ≤ S1024x1024.size a) (t h : ℕ) (ht : t < 4) (hh : h < 4) (eo : o = ![256 * t, 256 * h]) (c l : Fin 256) :
    View.readAt (Elt Ideal) arg2.view (Rect.unit (s := S1024x1024) o S256x256.size ho).toLoadRect X2 (ix2 c l)
      = x0 (ix2 ⟨256 * t + c.val, by omega⟩ ⟨256 * h + l.val, by omega⟩) := by
  subst eo
  rw [View.readAt_eq_ld]
  show arg2.view.read (Elt Ideal) X2 _ = _
  rw [e]
  refine congrArg x0 (funext fun a => Fin.ext ?_)
  match a with
  | ⟨0, _⟩ => show 256 * t + 1 * c.val = 256 * t + c.val; omega
  | ⟨1, _⟩ => show 256 * h + 1 * l.val = 256 * h + l.val; omega

/-- A load from the value block reads the block at the shifted position. -/
theorem load4 (X4 : BufTy.Contents (Elt Ideal) arg4.view.ty) (x2 : FVec Ideal S4096x256 .bf16) (e : arg4.view.read (Elt Ideal) X4 = x2)
    (o : Fin 2 → ℕ) (ho : ∀ a, o a + S128x256.size a ≤ S4096x256.size a) (n h : ℕ) (hn : n < 8) (hh : h < 4) (eo : o = ![512 * n + 128 * h, 0])
    (r : Fin 128) (j : Fin 256) :
    View.readAt (Elt Ideal) arg4.view (Rect.unit (s := S4096x256) o S128x256.size ho).toLoadRect X4 (ix2 r j)
      = x2 (ix2 (Fin.ofNat 4096 (512 * n + 128 * h + r.val)) j) := by
  subst eo
  rw [View.readAt_eq_ld]
  show arg4.view.read (Elt Ideal) X4 _ = _
  rw [e]
  refine congrArg x2 (funext fun a => Fin.ext ?_)
  match a with
  | ⟨0, _⟩ => show 512 * n + 128 * h + 1 * r.val = (512 * n + 128 * h + r.val) % 4096; omega
  | ⟨1, _⟩ => show 0 + 1 * j.val = j.val; omega

variable {X2 : BufTy.Contents (Elt Ideal) arg2.view.ty} {X3 : BufTy.Contents (Elt Ideal) arg3.view.ty} {X4 : BufTy.Contents (Elt Ideal) arg4.view.ty}
  {x0 : FVec Ideal S1024x1024 .bf16} {x1 : FVec Ideal S2048x1024 .bf16} {x2 : FVec Ideal S4096x256 .bf16}

/-- A block of scores at an index. -/
theorem sOf_apply (e2 : arg2.view.read (Elt Ideal) X2 = x0) (e3 : arg3.view.read (Elt Ideal) X3 = x1)
    {ok : Fin 4 → Fin 2 → ℕ} {hk : ∀ h a, ok h a + S256x256.size a ≤ S2048x1024.size a}
    {oq : Fin 4 → Fin 2 → ℕ} {hq : ∀ h a, oq h a + S256x256.size a ≤ S1024x1024.size a} (n : ℕ) (hn : n < 8) (t : Fin 4)
    (ek : ∀ h : Fin 4, ok h = ![256 * n, 256 * h.val]) (eq : ∀ h : Fin 4, oq h = ![256 * t.val, 256 * h.val]) (h : Fin 4) (j c : Fin 256) :
    sOf X2 X3 ok hk oq hq h (ix2 j c) = ∑ l : Fin 256, x1 (ix2 (Fin.ofNat 2048 (256 * n + j.val)) ⟨256 * h.val + l.val, by omega⟩)
      * x0 (ix2 ⟨256 * t.val + c.val, by omega⟩ ⟨256 * h.val + l.val, by omega⟩) := by
  unfold sOf
  rw [pay2_apply]
  refine Finset.sum_congr rfl fun l _ => ?_
  rw [load3 X3 x1 e3 _ _ n h.val hn h.isLt (ek h), load2 X2 x0 e2 _ _ t.val h.val t.isLt h.isLt (eq h)]

/-- A block of values at an index. -/
theorem vOf_apply (e4 : arg4.view.read (Elt Ideal) X4 = x2) {ov : Fin 4 → Fin 2 → ℕ} {hv : ∀ h a, ov h a + S128x256.size a ≤ S4096x256.size a}
    (n : ℕ) (hn : n < 8) (ev : ∀ h : Fin 4, ov h = ![512 * n + 128 * h.val, 0]) (h : Fin 4) (r : Fin 144) (hr : r.val < 128) (j : Fin 256) :
    vOf X4 ov hv h (ix2 ⟨r.val, hr⟩ j) = Vv x2 h r (256 * n + j.val) := by
  unfold vOf Vv
  rw [if_pos hr, load4 X4 x2 e4 _ _ n h.val hn h.isLt (ev h)]
  have e1 : (256 * n + j.val) / 256 = n := by omega
  have e2 : Fin.ofNat 256 (256 * n + j.val) = j := Fin.ext (by show (256 * n + j.val) % 256 = j.val; omega)
  rw [e1, e2]

/-- Past the head dimension the extended values are one. -/
theorem Vv_one (h : Fin 4) (r : Fin 144) (hr : ¬ r.val < 128) (n : ℕ) : Vv x2 h r n = 1 := if_neg hr

/-- The accumulator of a tile: after `n` whole blocks and the diagonal one, it holds the weighted sums of all keys up to
    the tile's last query. -/
theorem tile_value {arg7 : Memref sig .tc .vmem S4x144x256 .f32} (e2 : arg2.view.read (Elt Ideal) X2 = x0) (e3 : arg3.view.read (Elt Ideal) X3 = x1)
    (e4 : arg4.view.read (Elt Ideal) X4 = x2) (n : ℕ) (hn : n < 8) (t : Fin 4)
    (st : ℕ → Carry × List (View.Piece (Elt Ideal) S4x144x256 .f32)) (init : Carry)
    (w : FVec Ideal S4x144x256 .f32) (L0 : List (View.Piece (Elt Ideal) S4x144x256 .f32))
    (inb0 : ∀ a, (![0, 0, 0] : Fin 3 → ℕ) a + S4x144x256.size a ≤ S4x144x256.size a)
    (hinit : ∀ h c, init.at h (ix2 0 c) = ⊥) (hw : ∀ i, w i = 0) (h0 : st 0 = (init, []))
    (ok : ℕ → Fin 4 → Fin 2 → ℕ) (hk : ∀ k, k < n → ∀ h a, ok k h a + S256x256.size a ≤ S2048x1024.size a)
    (oq : Fin 4 → Fin 2 → ℕ) (hq : ∀ h a, oq h a + S256x256.size a ≤ S1024x1024.size a)
    (ov : ℕ → Fin 4 → Fin 2 → ℕ) (hv : ∀ k, k < n → ∀ h a, ov k h a + S128x256.size a ≤ S4096x256.size a)
    (ek : ∀ k, k < n → ∀ h : Fin 4, ok k h = ![256 * k, 256 * h.val]) (eq : ∀ h : Fin 4, oq h = ![256 * t.val, 256 * h.val])
    (ev : ∀ k, k < n → ∀ h : Fin 4, ov k h = ![512 * k + 128 * h.val, 0])
    (hst : ∀ (k : ℕ) (hkn : k < n), st (k + 1) = (nextM (st k).1 (sOf X2 X3 (ok k) (hk k hkn) oq hq),
      nextP arg7 (st k).1 (sOf X2 X3 (ok k) (hk k hkn) oq hq) (vOf X4 (ov k) (hv k hkn))
        (arg7.view.writes (Elt Ideal) (arg7.view.writes (Elt Ideal) arg7.view.junk (⟨Rect.unit (s := S4x144x256) ![0, 0, 0] S4x144x256.size inb0, w⟩ :: L0)) (st k).2)
        ++ (st k).2))
    (okd : Fin 4 → Fin 2 → ℕ) (hkd : ∀ h a, okd h a + S256x256.size a ≤ S2048x1024.size a)
    (ovd : Fin 4 → Fin 2 → ℕ) (hvd : ∀ h a, ovd h a + S128x256.size a ≤ S4096x256.size a)
    (ekd : ∀ h : Fin 4, okd h = ![256 * n, 256 * h.val]) (evd : ∀ h : Fin 4, ovd h = ![512 * n + 128 * h.val, 0])
    (h : Fin 4) (r : Fin 144) (c : Fin 256) :
    rd arg7 (arg7.view.writes (Elt Ideal) arg7.view.junk (diagPieces arg7 (st n).1 (sOf X2 X3 okd hkd oq hq) (vOf X4 ovd hvd)
      ((st n).2 ++ ⟨Rect.unit (s := S4x144x256) ![0, 0, 0] S4x144x256.size inb0, w⟩ :: L0))) h r c
      = wsum (Sc x0 x1 t (256 * n) h c) (Vv x2 h r) (256 * n + 256) := by
  have z : ∀ h r c, rd arg7 (arg7.view.writes (Elt Ideal) arg7.view.junk (⟨Rect.unit (s := S4x144x256) ![0, 0, 0] S4x144x256.size inb0, w⟩ :: L0)) h r c = 0 := by
    exact fun h r c => (rd_whole arg7 _ inb0 w L0 h r c).trans (hw _)
  have H := Inv.loop (S := Sc x0 x1 t (256 * n)) (V := Vv x2) (n := n) st h0
    (fun k => if hkn : k < n then sOf X2 X3 (ok k) (hk k hkn) oq hq else fun _ _ => 0)
    (fun k => if hkn : k < n then vOf X4 (ov k) (hv k hkn) else fun _ _ => 0)
    (fun k hkn => by simp only [dif_pos hkn]; exact hst k hkn)
    (fun h => ⟨fun c => (hinit h c).trans (top_zero _).symm, fun r c => (z h r c).trans (wsum_zero _ _).symm⟩)
    (fun k hkn h j c => by
      simp only [dif_pos hkn]
      rw [sOf_apply e2 e3 k (by omega) t (ek k hkn) eq]
      exact (if_pos (by omega)).symm)
    (fun k hkn h r hr j => by
      simp only [dif_pos hkn]
      exact vOf_apply e4 k (by omega) (ev k hkn) h r hr j)
    (fun h r hr m => Vv_one h r hr m) n le_rfl
  rw [← View.writes_append] at H
  refine H.diag _ _ (fun h j c => ?_) (fun h r hr j => vOf_apply e4 n hn evd h r hr j) (fun h r hr m => Vv_one h r hr m) h r c
  rw [diagMask_apply, sOf_apply e2 e3 n hn t ekd eq]
  unfold Sc
  by_cases hc : j ≤ c
  · rw [if_pos hc, if_pos (by have : j.val ≤ c.val := hc; omega)]
  · rw [if_neg hc, if_neg (by have : ¬ j.val ≤ c.val := hc; omega)]

end Loads

/-- Where loop block `k` of head `h` lies in the packed keys. -/
def okL (k : ℕ) (h : Fin 4) : Fin 2 → ℕ := ![(Scalar.indexCast (Scalar.muli (Scf.iv 0#32 1#32 k) 256#32)).toNat, 256 * h.val]

/-- Where loop block `k` of head `h` lies in the transposed values. -/
def ovL (k : ℕ) (h : Fin 4) : Fin 2 → ℕ :=
  ![(Scalar.indexCast (Scalar.addi (Scalar.muli (Scf.iv 0#32 1#32 k) 512#32) (BitVec.ofNat 32 (128 * h.val)))).toNat, 0]

/-- Where tile `t`'s queries of head `h` lie. -/
def oqT (t h : Fin 4) : Fin 2 → ℕ := ![256 * t.val, 256 * h.val]

/-- Where tile `t`'s diagonal block lies in the packed keys, in the second grid coordinate `b`. -/
def okD (b : ℕ) (t h : Fin 4) : Fin 2 → ℕ :=
  ![(Scalar.indexCast (Scalar.muli (Scalar.addi (Scalar.muli (BitVec.ofNat 32 b) 4#32) (BitVec.ofNat 32 t.val)) 256#32)).toNat, 256 * h.val]

/-- Where it lies in the transposed values. -/
def ovD (b : ℕ) (t h : Fin 4) : Fin 2 → ℕ :=
  ![(Scalar.indexCast (Scalar.addi (Scalar.muli (Scalar.addi (Scalar.muli (BitVec.ofNat 32 b) 4#32) (BitVec.ofNat 32 t.val)) 512#32)
    (BitVec.ofNat 32 (128 * h.val)))).toNat, 0]

/-- Where a loop step loads its keys. -/
theorem okL_eq (k : ℕ) (hk : k < 8) (h : Fin 4) : okL k h = ![256 * k, 256 * h.val] := by
  have : ∀ k : Fin 8, (Scalar.indexCast (Scalar.muli (Scf.iv 0#32 1#32 k.val) 256#32)).toNat = 256 * k.val := by decide
  unfold okL
  rw [this ⟨k, hk⟩]

/-- Where a loop step loads its values. -/
theorem ovL_eq (k : ℕ) (hk : k < 8) (h : Fin 4) : ovL k h = ![512 * k + 128 * h.val, 0] := by
  have : ∀ (k : Fin 8) (h : Fin 4), (Scalar.indexCast (Scalar.addi (Scalar.muli (Scf.iv 0#32 1#32 k.val) 512#32) (BitVec.ofNat 32 (128 * h.val)))).toNat
      = 512 * k.val + 128 * h.val := by decide
  unfold ovL
  rw [this ⟨k, hk⟩]

/-- Where the diagonal step loads its keys. -/
theorem okD_eq (b : ℕ) (hb : b < 2) (t h : Fin 4) : okD b t h = ![256 * (4 * b + t.val), 256 * h.val] := by
  have : ∀ (b : Fin 2) (t : Fin 4), (Scalar.indexCast (Scalar.muli (Scalar.addi (Scalar.muli (BitVec.ofNat 32 b.val) 4#32) (BitVec.ofNat 32 t.val)) 256#32)).toNat
      = 256 * (4 * b.val + t.val) := by decide
  unfold okD
  rw [this ⟨b, hb⟩]

/-- Where the diagonal step loads its values. -/
theorem ovD_eq (b : ℕ) (hb : b < 2) (t h : Fin 4) : ovD b t h = ![512 * (4 * b + t.val) + 128 * h.val, 0] := by
  have : ∀ (b : Fin 2) (t h : Fin 4), (Scalar.indexCast (Scalar.addi (Scalar.muli (Scalar.addi (Scalar.muli (BitVec.ofNat 32 b.val) 4#32) (BitVec.ofNat 32 t.val)) 512#32)
      (BitVec.ofNat 32 (128 * h.val)))).toNat = 512 * (4 * b.val + t.val) + 128 * h.val := by decide
  unfold ovD
  rw [this ⟨b, hb⟩]

/-- Key tiles lie inside the key block. -/
theorem inbK {o : Fin 4 → Fin 2 → ℕ} {n : ℕ} (hn : n < 8) (e : ∀ h : Fin 4, o h = ![256 * n, 256 * h.val]) :
    ∀ h a, o h a + S256x256.size a ≤ S2048x1024.size a := by
  intro h a
  rw [e h]
  match a with
  | ⟨0, _⟩ => show 256 * n + 256 ≤ 2048; omega
  | ⟨1, _⟩ => show 256 * h.val + 256 ≤ 1024; omega

/-- Value tiles lie inside the value block. -/
theorem inbV {o : Fin 4 → Fin 2 → ℕ} {n : ℕ} (hn : n < 8) (e : ∀ h : Fin 4, o h = ![512 * n + 128 * h.val, 0]) :
    ∀ h a, o h a + S128x256.size a ≤ S4096x256.size a := by
  intro h a
  rw [e h]
  match a with
  | ⟨0, _⟩ => show 512 * n + 128 * h.val + 128 ≤ 4096; omega
  | ⟨1, _⟩ => show 0 + 256 ≤ 256; omega

/-- Query tiles lie inside the query block. -/
theorem inbQ (t : Fin 4) : ∀ h a, oqT t h a + S256x256.size a ≤ S1024x1024.size a := by
  intro h a
  match a with
  | ⟨0, _⟩ => show 256 * t.val + 256 ≤ 1024; omega
  | ⟨1, _⟩ => show 256 * h.val + 256 ≤ 1024; omega

/-- Loop block `k`'s scores for tile `t`. -/
abbrev sL {arg2 : Memref sig .tc .vmem S1024x1024 .bf16} {arg3 : Memref sig .tc .vmem S2048x1024 .bf16}
    (X2 : BufTy.Contents (Elt Ideal) arg2.view.ty) (X3 : BufTy.Contents (Elt Ideal) arg3.view.ty) (t : Fin 4) (k : ℕ) (hk : k < 8) :
    Fin 4 → FVec Ideal S256x256 .f32 :=
  sOf X2 X3 (okL k) (inbK hk (okL_eq k hk)) (oqT t) (inbQ t)

/-- Loop block `k`'s values. -/
abbrev vL {arg4 : Memref sig .tc .vmem S4096x256 .bf16} (X4 : BufTy.Contents (Elt Ideal) arg4.view.ty) (k : ℕ) (hk : k < 8) :
    Fin 4 → Vec Ideal S128x256 .bf16 :=
  vOf X4 (ovL k) (inbV hk (ovL_eq k hk))

/-- Tile `t`'s diagonal scores, before the mask. -/
abbrev sD {arg2 : Memref sig .tc .vmem S1024x1024 .bf16} {arg3 : Memref sig .tc .vmem S2048x1024 .bf16}
    (X2 : BufTy.Contents (Elt Ideal) arg2.view.ty) (X3 : BufTy.Contents (Elt Ideal) arg3.view.ty) (t : Fin 4) (b : ℕ) (hb : b < 2) :
    Fin 4 → FVec Ideal S256x256 .f32 :=
  sOf X2 X3 (okD b t) (inbK (by omega) (okD_eq b hb t)) (oqT t) (inbQ t)

/-- Tile `t`'s diagonal values. -/
abbrev vD {arg4 : Memref sig .tc .vmem S4096x256 .bf16} (X4 : BufTy.Contents (Elt Ideal) arg4.view.ty) (t : Fin 4) (b : ℕ) (hb : b < 2) :
    Fin 4 → Vec Ideal S128x256 .bf16 :=
  vOf X4 (ovD b t) (inbV (by omega) (ovD_eq b hb t))

/-- A tile's accumulator, with the blocks where the kernel finds them: `4 b + t` whole blocks, then the diagonal one. -/
theorem tile_acc {arg2 : Memref sig .tc .vmem S1024x1024 .bf16} {arg3 : Memref sig .tc .vmem S2048x1024 .bf16}
    {arg4 : Memref sig .tc .vmem S4096x256 .bf16} {arg7 : Memref sig .tc .vmem S4x144x256 .f32}
    {X2 : BufTy.Contents (Elt Ideal) arg2.view.ty} {X3 : BufTy.Contents (Elt Ideal) arg3.view.ty} {X4 : BufTy.Contents (Elt Ideal) arg4.view.ty}
    {x0 : FVec Ideal S1024x1024 .bf16} {x1 : FVec Ideal S2048x1024 .bf16} {x2 : FVec Ideal S4096x256 .bf16}
    (e2 : arg2.view.read (Elt Ideal) X2 = x0) (e3 : arg3.view.read (Elt Ideal) X3 = x1) (e4 : arg4.view.read (Elt Ideal) X4 = x2)
    (b : ℕ) (hb : b < 2) (t : Fin 4) (n : ℕ) (hn : n = 4 * b + t.val)
    (st : ℕ → Carry × List (View.Piece (Elt Ideal) S4x144x256 .f32)) (init : Carry)
    (w : FVec Ideal S4x144x256 .f32) (L0 : List (View.Piece (Elt Ideal) S4x144x256 .f32))
    (inb0 : ∀ a, (![0, 0, 0] : Fin 3 → ℕ) a + S4x144x256.size a ≤ S4x144x256.size a)
    (hinit : ∀ h c, init.at h (ix2 0 c) = ⊥) (hw : ∀ i, w i = 0) (h0 : st 0 = (init, []))
    (hst : ∀ (k : ℕ) (hkn : k < n), st (k + 1) = (nextM (st k).1 (sL X2 X3 t k (by omega)),
      nextP arg7 (st k).1 (sL X2 X3 t k (by omega)) (vL X4 k (by omega))
        (arg7.view.writes (Elt Ideal) (arg7.view.writes (Elt Ideal) arg7.view.junk (⟨Rect.unit (s := S4x144x256) ![0, 0, 0] S4x144x256.size inb0, w⟩ :: L0)) (st k).2)
        ++ (st k).2))
    (S2 : Carry × List (View.Piece (Elt Ideal) S4x144x256 .f32)) (hS2 : S2 = ((st n).1, []))
    (h : Fin 4) (r : Fin 144) (c : Fin 256) :
    rd arg7 (arg7.view.writes (Elt Ideal) arg7.view.junk (diagPieces arg7 S2.1 (sD X2 X3 t b hb) (vD X4 t b hb)
      (S2.2 ++ ((st n).2 ++ ⟨Rect.unit (s := S4x144x256) ![0, 0, 0] S4x144x256.size inb0, w⟩ :: L0)))) h r c
      = wsum (Sc x0 x1 t (256 * (4 * b + t.val)) h c) (Vv x2 h r) (256 * (4 * b + t.val) + 256) := by
  subst hS2 hn
  exact tile_value e2 e3 e4 (4 * b + t.val) (by omega) t st init w L0 inb0 hinit hw h0 okL _ (oqT t) _ ovL _
    (fun k hk => okL_eq k (by omega)) (fun _ => rfl) (fun k hk => ovL_eq k (by omega)) hst _ _ _ _ (okD_eq b hb t) (ovD_eq b hb t) h r c

end Cert.Att

end
-- ==== Proof.Host.lean ====
/- What a grid step of the attention kernel reads: the host's packing of queries, keys and values, and the block each window
   takes of it. A packed head has 256 lanes, 192 of them the head's and the others zero, so a product over them is the head's. -/
module

public import proofs.«01_k».proof.Proof.Gen.KernelIdeal.Value
public import proofs.«01_k».proof.Proof.Blocks
public import Idealize.ShloMosaic.Lib.Claim
public import Idealize.ShloMosaic.Lib.Pointwise

@[expose] public section

set_option maxRecDepth 16384

noncomputable section

namespace Cert.Att

open Cert.KernelIdeal Cert.KernelIdeal.Gen Idealize.ShloMosaic Idealize.ShloMosaic.TcCoe Idealize.ShloMosaic.Tactic

variable (m : (ℓ : Loc nD τ sig) → Buf (Elt Ideal) ℓ)

/-- A head's 192 values laid in 256 lanes: the first 128, then each half of the remaining 64 followed by 32 zeros. -/
def lane (f : Fin 192 → EReal) (l : Fin 256) : EReal :=
  if h1 : l.val < 128 then f ⟨l.val, by omega⟩
  else if h2 : l.val - 128 < 32 then f ⟨128 + (l.val - 128), by omega⟩
  else if l.val - 128 - 32 < 32 then 0
  else if h3 : l.val - 128 - 32 - 32 < 32 then f ⟨128 + (32 + (l.val - 128 - 32 - 32)), by omega⟩ else 0

/-- The first 128 lanes are the features in order. -/
theorem lane_lo (f : Fin 192 → EReal) (l : Fin 256) (h : l.val < 128) : lane f l = f ⟨l.val, by omega⟩ := by
  unfold lane
  rw [dif_pos h]

/-- Lanes 128 to 159 are the first half of the rotary features. -/
theorem lane_first (f : Fin 192 → EReal) (l : Fin 256) (h : 128 ≤ l.val) (h' : l.val < 160) : lane f l = f ⟨l.val, by omega⟩ := by
  unfold lane
  rw [dif_neg (by omega), dif_pos (by omega)]
  congr 1; apply Fin.ext; show 128 + (l.val - 128) = l.val; omega

/-- Lanes 192 to 223 are the second half of the rotary features. -/
theorem lane_second (f : Fin 192 → EReal) (l : Fin 256) (h : 192 ≤ l.val) (h' : l.val < 224) : lane f l = f ⟨l.val - 32, by omega⟩ := by
  unfold lane
  rw [dif_neg (by omega), dif_neg (by omega), if_neg (by omega), dif_pos (by omega)]
  congr 1; apply Fin.ext; show 128 + (32 + (l.val - 128 - 32 - 32)) = l.val - 32; omega

/-- The other lanes are zero. -/
theorem lane_pad (f : Fin 192 → EReal) (l : Fin 256) (h : 160 ≤ l.val ∧ l.val < 192 ∨ 224 ≤ l.val) : lane f l = 0 := by
  unfold lane
  rw [dif_neg (by omega), dif_neg (by omega)]
  by_cases h3 : l.val - 128 - 32 < 32
  · rw [if_pos h3]
  · rw [if_neg h3, dif_neg (by omega)]

/-- A product of two packed heads is the product of the heads. -/
theorem lane_sum (f g : Fin 192 → EReal) : ∑ l, lane f l * lane g l = ∑ d, f d * g d := by
  rw [show (∑ l : Fin 256, lane f l * lane g l) = ∑ l : Fin (128 + (32 + (32 + (32 + 32)))), lane f l * lane g l from rfl,
    show (∑ d : Fin 192, f d * g d) = ∑ d : Fin (128 + (32 + 32)), f d * g d from rfl]
  simp only [Fin.sum_univ_add]
  have e1 : ∀ (f : Fin 192 → EReal) (x : Fin 128), (lane f (Fin.castAdd (32 + (32 + (32 + 32))) x) : EReal) = f (Fin.castAdd (32 + 32) x) :=
    fun f x => lane_lo f _ x.isLt
  have e2 : ∀ (f : Fin 192 → EReal) (x : Fin 32),
      (lane f (Fin.natAdd 128 (Fin.castAdd (32 + (32 + 32)) x)) : EReal) = f (Fin.natAdd 128 (Fin.castAdd 32 x)) := fun f x => by
    refine lane_first f _ (?_ : 128 ≤ 128 + x.val) (?_ : 128 + x.val < 160) <;> omega
  have e3 : ∀ (f : Fin 192 → EReal) (x : Fin 32), (lane f (Fin.natAdd 128 (Fin.natAdd 32 (Fin.castAdd (32 + 32) x))) : EReal) = 0 := fun f x => by
    refine lane_pad f _ (Or.inl ⟨(?_ : 160 ≤ 128 + (32 + x.val)), (?_ : 128 + (32 + x.val) < 192)⟩) <;> omega
  have e4 : ∀ (f : Fin 192 → EReal) (x : Fin 32), (lane f (Fin.natAdd 128 (Fin.natAdd 32 (Fin.natAdd 32 (Fin.castAdd 32 x)))) : EReal)
        = f (Fin.natAdd 128 (Fin.natAdd 32 x)) := fun f x => by
    refine (lane_second f _ (?_ : 192 ≤ 128 + (32 + (32 + x.val))) (?_ : 128 + (32 + (32 + x.val)) < 224)).trans ?_
    · omega
    · omega
    · congr 1; apply Fin.ext; show 128 + (32 + (32 + x.val)) - 32 = 128 + (32 + x.val); omega
  have e5 : ∀ (f : Fin 192 → EReal) (x : Fin 32), (lane f (Fin.natAdd 128 (Fin.natAdd 32 (Fin.natAdd 32 (Fin.natAdd 32 x)))) : EReal) = 0 := fun f x => by
    refine lane_pad f _ (Or.inr (?_ : 224 ≤ 128 + (32 + (32 + (32 + x.val))))); omega
  simp only [e1, e2, e3, e4, e5, zero_mul, Finset.sum_const_zero, zero_add, add_zero]

/-- The four pieces of a packed head side by side. -/
def packed (x : FVec Ideal S16x4x2048x192 .f32) : FVec Ideal S16x4x2048x256 .f32 :=
  let z : FVec Ideal S16x4x2048x32 .f32 := broadcastInDim S16x4x2048x32 ![] bcast_S_S16x4x2048x32 (constant S_ .f32 0x00000000#32 : FVec Ideal S_ .f32)
  let rope : FVec Ideal S16x4x2048x64 .f32 := extractStridedSlice S16x4x2048x64 ![0, 0, 0, 128] x slices_S16x4x2048x192_S16x4x2048x64_0_0_0_128
  concatenate S16x4x2048x256 3 [⟨S16x4x2048x128, extractStridedSlice S16x4x2048x128 ![0, 0, 0, 0] x slices_S16x4x2048x192_S16x4x2048x128_0_0_0_0⟩,
    ⟨S16x4x2048x128, concatenate S16x4x2048x128 3 [⟨S16x4x2048x32, extractStridedSlice S16x4x2048x32 ![0, 0, 0, 0] rope slices_S16x4x2048x64_S16x4x2048x32_0_0_0_0⟩,
      ⟨S16x4x2048x32, z⟩, ⟨S16x4x2048x32, extractStridedSlice S16x4x2048x32 ![0, 0, 0, 32] rope slices_S16x4x2048x64_S16x4x2048x32_0_0_0_32⟩, ⟨S16x4x2048x32, z⟩]
      concatenates_S16x4x2048x32_S16x4x2048x32_S16x4x2048x32_S16x4x2048x32_S16x4x2048x128_d3⟩] concatenates_S16x4x2048x128_S16x4x2048x128_S16x4x2048x256_d3

/-- Packed heads, one row for each position. -/
def flat (x : FVec Ideal S16x4x2048x256 .f32) : FVec Ideal S32768x1024 .bf16 :=
  truncf .bf16 (shapeCast S32768x1024 (transpose S16x2048x4x256 [0, 2, 1, 3] x transposes_S16x4x2048x256_S16x2048x4x256_0_2_1_3) shapeCasts_S16x2048x4x256_S32768x1024) bitsLt_bf16_f32

/-- Queries times the scale, divided by the logarithm of two. -/
def scaled (x : FVec Ideal S16x4x2048x192 .f32) : FVec Ideal S16x4x2048x192 .f32 :=
  Host.divf (mulf x (broadcastInDim S16x4x2048x192 ![] bcast_S_S16x4x2048x192 (constant S_ .f32 0x3D93CD3A#32 : FVec Ideal S_ .f32)))
    (broadcastInDim S16x4x2048x192 ![] bcast_S_S16x4x2048x192 (Host.log (constant S_ .f32 0x40000000#32 : FVec Ideal S_ .f32)))

/-- The key operand of the launch is the packed keys. -/
theorem V_k (c : Dev nD) : (V m c main_v28 : FVec Ideal S32768x1024 .bf16) = flat (packed (m ((c : Thread nD τ).loc main_arg1))) := by
  rfl

/-- The query operand of the launch is the packed scaled queries. -/
theorem V_q (c : Dev nD) : (V m c main_v18 : FVec Ideal S32768x1024 .bf16) = flat (packed (scaled (m ((c : Thread nD τ).loc main_arg0)))) := by
  rfl

/-- An entry of the packed array. -/
theorem packed_apply (x : FVec Ideal S16x4x2048x192 .f32) (b : Fin 16) (s : Fin 2048) (h : Fin 4) (l : Fin 256) :
    packed x (ix4 b h s l) = lane (fun d => x (ix4 b h s d)) l := by
  unfold packed lane
  pointwise
  rfl

/-- An entry of the array laid out as rows of four heads. -/
theorem flat_apply (x : FVec Ideal S16x4x2048x256 .f32) (b : Fin 16) (s : Fin 2048) (h : Fin 4) (l : Fin 256) :
    flat x (ix2 ⟨2048 * b.val + s.val, by omega⟩ ⟨256 * h.val + l.val, by omega⟩) = x (ix4 b h s l) := by
  unfold flat
  pointwise

/-- The literal two. -/
theorem two_bits : Ideal.ofBits .f32 0x40000000#32 = ((2 : ℝ) : EReal) := by
  simp [Ideal.ofBits, Ideal.ieee]
  rw [← EReal.coe_mul]
  norm_num

/-- The host's division by the logarithm of two is a real factor. -/
theorem scaled_apply (x : FVec Ideal S16x4x2048x192 .f32) (b : Fin 16) (s : Fin 2048) (h : Fin 4) (d : Fin 192) :
    scaled x (ix4 b h s d) = x (ix4 b h s d) * Ideal.ofBits .f32 0x3D93CD3A#32 * ((1 / Real.log 2 : ℝ) : EReal) := by
  unfold scaled
  pointwise
  have e : Ideal.log (Ideal.ofBits .f32 0x40000000#32) = ((Real.log 2 : ℝ) : EReal) := by
    rw [two_bits, Ideal.log_coe, if_neg (by norm_num)]
  rw [e, Ideal.div_coe (ne_of_gt (Real.log_pos (by norm_num)))]

/-- Grid step `T` is batch `T / 2`, half `T % 2`; the blocks its windows take. -/
theorem index_eq (T : Fin cfg0.N) : (win0_0.index T 0 = T.val ∧ win0_0.index T 1 = 0) ∧ (win0_1.index T 0 = T.val / 2 ∧ win0_1.index T 1 = 0)
    ∧ (win0_2.index T 0 = T.val / 2 ∧ win0_2.index T 1 = 0) ∧ (win0_3.index T 0 = 0 ∧ win0_3.index T 1 = 0)
    ∧ (win0_4.index T 0 = T.val ∧ win0_4.index T 1 = 0) ∧ (grid0.coords T 1).val = T.val % 2 :=
  (by decide +kernel : ∀ T : Fin grid0.N, (win0_0.index T 0 = T.val ∧ win0_0.index T 1 = 0) ∧ (win0_1.index T 0 = T.val / 2 ∧ win0_1.index T 1 = 0)
    ∧ (win0_2.index T 0 = T.val / 2 ∧ win0_2.index T 1 = 0) ∧ (win0_3.index T 0 = 0 ∧ win0_3.index T 1 = 0)
    ∧ (win0_4.index T 0 = T.val ∧ win0_4.index T 1 = 0) ∧ (grid0.coords T 1).val = T.val % 2) T

/-- The grid has 32 points. -/
theorem lt32 (T : Fin cfg0.N) : T.val < 32 := T.isLt

/-- An entry of the query block of a grid point. -/
theorem iblk0 (c : Dev nD) (T : Fin cfg0.N) (a : Fin 1024) (l : Fin 1024) (j : S32768x1024.Idx) (h0 : (j 0).val = 1024 * T.val + a.val)
    (h1 : (j 1).val = l.val) : (iblk m c 0 T : Vec Ideal S1024x1024 .bf16) (ix2 a l) = (V m c main_v18 : FVec Ideal S32768x1024 .bf16) j := by
  unfold iblk
  rw [View.read_apply]
  show (V m c main_v18 : FVec Ideal S32768x1024 .bf16) _ = (V m c main_v18 : FVec Ideal S32768x1024 .bf16) _
  generalize (V m c main_v18 : FVec Ideal S32768x1024 .bf16) = w
  refine congrArg w (funext fun x => Fin.ext ?_)
  obtain ⟨e0, e1⟩ := (index_eq T).1
  match x with
  | ⟨0, _⟩ => show win0_0.index T 0 * 1024 + 1 * a.val = (j 0).val; rw [e0, h0]; omega
  | ⟨1, _⟩ => show win0_0.index T 1 * 1024 + 1 * l.val = (j 1).val; rw [e1, h1]; omega

/-- An entry of the key block of a grid point. -/
theorem iblk1 (c : Dev nD) (T : Fin cfg0.N) (a : Fin 2048) (l : Fin 1024) (j : S32768x1024.Idx) (h0 : (j 0).val = 2048 * (T.val / 2) + a.val)
    (h1 : (j 1).val = l.val) : (iblk m c 1 T : Vec Ideal S2048x1024 .bf16) (ix2 a l) = (V m c main_v28 : FVec Ideal S32768x1024 .bf16) j := by
  unfold iblk
  rw [View.read_apply]
  show (V m c main_v28 : FVec Ideal S32768x1024 .bf16) _ = (V m c main_v28 : FVec Ideal S32768x1024 .bf16) _
  generalize (V m c main_v28 : FVec Ideal S32768x1024 .bf16) = w
  refine congrArg w (funext fun x => Fin.ext ?_)
  obtain ⟨e0, e1⟩ := (index_eq T).2.1
  match x with
  | ⟨0, _⟩ => show win0_1.index T 0 * 2048 + 1 * a.val = (j 0).val; rw [e0, h0]; omega
  | ⟨1, _⟩ => show win0_1.index T 1 * 1024 + 1 * l.val = (j 1).val; rw [e1, h1]; omega

/-- An entry of the value block of a grid point. -/
theorem iblk2 (c : Dev nD) (T : Fin cfg0.N) (a : Fin 4096) (l : Fin 256) (j : S65536x256.Idx) (h0 : (j 0).val = 4096 * (T.val / 2) + a.val)
    (h1 : (j 1).val = l.val) : (iblk m c 2 T : Vec Ideal S4096x256 .bf16) (ix2 a l) = (V m c main_v3 : FVec Ideal S65536x256 .bf16) j := by
  unfold iblk
  rw [View.read_apply]
  show (V m c main_v3 : FVec Ideal S65536x256 .bf16) _ = (V m c main_v3 : FVec Ideal S65536x256 .bf16) _
  generalize (V m c main_v3 : FVec Ideal S65536x256 .bf16) = w
  refine congrArg w (funext fun x => Fin.ext ?_)
  obtain ⟨e0, e1⟩ := (index_eq T).2.2.1
  match x with
  | ⟨0, _⟩ => show win0_2.index T 0 * 4096 + 1 * a.val = (j 0).val; rw [e0, h0]; omega
  | ⟨1, _⟩ => show win0_2.index T 1 * 256 + 1 * l.val = (j 1).val; rw [e1, h1]; omega

/-- An entry of the gain block of a grid point. -/
theorem iblk3 (c : Dev nD) (T : Fin cfg0.N) (a : Fin 512) : (iblk m c 3 T : Vec Ideal S512x1 .f32) (ix2 a 0) = (V m c main_v29 : FVec Ideal S512x1 .f32) (ix2 a 0) := by
  unfold iblk
  rw [View.read_apply]
  show (V m c main_v29 : FVec Ideal S512x1 .f32) _ = (V m c main_v29 : FVec Ideal S512x1 .f32) _
  generalize (V m c main_v29 : FVec Ideal S512x1 .f32) = w
  refine congrArg w (funext fun x => Fin.ext ?_)
  obtain ⟨e0, e1⟩ := (index_eq T).2.2.2.1
  match x with
  | ⟨0, _⟩ => show win0_3.index T 0 * 512 + 1 * a.val = a.val; rw [e0]; omega
  | ⟨1, _⟩ => show win0_3.index T 1 * 1 + 1 * 0 = 0; rw [e1]

/-- A key's packed row at its lanes. -/
theorem key_read (c : Dev nD) (T : Fin cfg0.N) (n : Fin 2048) (h : Fin 4) (l : Fin 256) :
    (iblk m c 1 T : Vec Ideal S2048x1024 .bf16) (ix2 n ⟨256 * h.val + l.val, by omega⟩)
      = lane (fun d => (m ((c : Thread nD τ).loc main_arg1) : FVec Ideal S16x4x2048x192 .f32) (ix4 ⟨T.val / 2, by have := lt32 T; omega⟩ h n d)) l := by
  have hT := lt32 T
  rw [iblk1 m c T n ⟨256 * h.val + l.val, by omega⟩ (ix2 (n0 := 32768) (n1 := 1024) ⟨2048 * (T.val / 2) + n.val, by omega⟩ ⟨256 * h.val + l.val, by omega⟩) rfl rfl, V_k,
    flat_apply _ ⟨T.val / 2, by omega⟩, packed_apply]

/-- A query's packed row at its lanes, scaled. -/
theorem query_read (c : Dev nD) (q : FVec Ideal S16x4x2048x192 .f32) (hq : m ((c : Thread nD τ).loc main_arg0) = q)
    (T : Fin cfg0.N) (a : Fin 1024) (h : Fin 4) (l : Fin 256) :
    (iblk m c 0 T : Vec Ideal S1024x1024 .bf16) (ix2 a ⟨256 * h.val + l.val, by omega⟩)
      = lane (fun d => q (ix4 ⟨T.val / 2, by have := lt32 T; omega⟩ h ⟨1024 * (T.val % 2) + a.val, by omega⟩ d)
          * Ideal.ofBits .f32 0x3D93CD3A#32 * ((1 / Real.log 2 : ℝ) : EReal)) l := by
  have hT := lt32 T
  rw [iblk0 m c T a ⟨256 * h.val + l.val, by omega⟩ (ix2 (n0 := 32768) (n1 := 1024) ⟨2048 * (T.val / 2) + (1024 * (T.val % 2) + a.val), by omega⟩ ⟨256 * h.val + l.val, by omega⟩)
      (by show 2048 * (T.val / 2) + (1024 * (T.val % 2) + a.val) = 1024 * T.val + a.val; omega) rfl, V_q, hq,
    flat_apply _ ⟨T.val / 2, by omega⟩ ⟨1024 * (T.val % 2) + a.val, by omega⟩, packed_apply]
  simp only [scaled_apply]

/-- Indices with equal coordinates are equal. -/
theorem ix4_ext {n0 n1 n2 n3 : ℕ} {a a' : Fin n0} {b b' : Fin n1} {c c' : Fin n2} {d d' : Fin n3} (ha : a.val = a'.val) (hb : b.val = b'.val)
    (hc : c.val = c'.val) (hd : d.val = d'.val) : ix4 a b c d = ix4 a' b' c' d' := by
  rw [Fin.ext ha, Fin.ext hb, Fin.ext hc, Fin.ext hd]

/-- The value operand of the launch: head by head, transposed tiles of 256 keys. -/
theorem V_v (c : Dev nD) (b : Fin 16) (n : Fin 8) (h : Fin 4) (r : Fin 128) (j : Fin 256) :
    (V m c main_v3 : FVec Ideal S65536x256 .bf16) (ix2 ⟨4096 * b.val + (512 * n.val + 128 * h.val + r.val), by omega⟩ j)
      = (m ((c : Thread nD τ).loc main_arg2) : FVec Ideal S16x4x2048x128 .f32) (ix4 b h ⟨256 * n.val + j.val, by omega⟩ r) := by
  entry_read
  pointwise
  refine congrArg _ (ix4_ext ?_ ?_ ?_ ?_)
  · show (4096 * b.val + (512 * n.val + 128 * h.val + r.val)) / 4096 = b.val
    omega
  · show (4096 * b.val + (512 * n.val + 128 * h.val + r.val)) / 128 % 4 = h.val
    omega
  · show (4096 * b.val + (512 * n.val + 128 * h.val + r.val)) / 512 % 8 * 256 + j.val = 256 * n.val + j.val
    omega
  · show (4096 * b.val + (512 * n.val + 128 * h.val + r.val)) % 128 = r.val
    omega

/-- A value's transposed row. -/
theorem value_read (c : Dev nD) (T : Fin cfg0.N) (h : Fin 4) (r : Fin 144) (hr : r.val < 128) (n : ℕ) (hn : n < 2048) :
    Vv (iblk m c 2 T : Vec Ideal S4096x256 .bf16) h r n
      = (m ((c : Thread nD τ).loc main_arg2) : FVec Ideal S16x4x2048x128 .f32)
          (ix4 ⟨T.val / 2, by have := lt32 T; omega⟩ h (Fin.ofNat 2048 n) ⟨r.val, hr⟩) := by
  have hT := lt32 T
  unfold Vv
  rw [if_pos hr, iblk2 m c T (Fin.ofNat 4096 (512 * (n / 256) + 128 * h.val + r.val)) (Fin.ofNat 256 n) (ix2 (n0 := 65536) (n1 := 256) ⟨4096 * (T.val / 2) + (512 * (n / 256) + 128 * h.val + r.val), by omega⟩ ⟨n % 256, by omega⟩)
      (by show 4096 * (T.val / 2) + (512 * (n / 256) + 128 * h.val + r.val) = 4096 * (T.val / 2) + (512 * (n / 256) + 128 * h.val + r.val) % 4096; rw [Nat.mod_eq_of_lt (by omega)]) rfl,
    V_v m c ⟨T.val / 2, by omega⟩ ⟨n / 256, by omega⟩ h ⟨r.val, hr⟩ ⟨n % 256, by omega⟩]
  refine congrArg _ (congrArg (fun z => ix4 _ h z _) (Fin.ext ?_))
  show 256 * (n / 256) + n % 256 = n % 2048
  omega

/-- The gain's column. -/
theorem gain_read (c : Dev nD) (T : Fin cfg0.N) (h : Fin 4) (r : Fin 128) :
    (iblk m c 3 T : Vec Ideal S512x1 .f32) (ix2 ⟨128 * h.val + r.val, by omega⟩ 0)
      = (m ((c : Thread nD τ).loc main_arg3) : FVec Ideal S4x128 .f32) (ix2 h r) := by
  rw [iblk3]
  entry_read
  pointwise

/-- The real score of a query against a key. -/
def score (q k : S16x4x2048x192.Idx → ℝ) (b : Fin 16) (h : Fin 4) (s : Fin 2048) (n : ℕ) : ℝ :=
  (∑ d : Fin 192, q (ix4 b h s d) * k (ix4 b h (Fin.ofNat 2048 n) d)) * (9686330 / 2 ^ 27)

/-- The literal 192^(-1/2) as a fraction. -/
theorem scale_bits : Ideal.ofBits .f32 0x3D93CD3A#32 = ((9686330 / 2 ^ 27 : ℝ) : EReal) := by
  simp [Ideal.ofBits, Ideal.ieee]
  rw [← EReal.coe_mul]
  norm_num

end Cert.Att
-- ==== Proof.Tiles.lean ====
/- The four query tiles of a grid step: each one's loop of whole blocks, its diagonal block, and the accumulator they leave. -/
module

public import proofs.«01_k».proof.Proof.Blocks
public import Idealize.ShloMosaic.Lib.LoopRemainder

@[expose] public section

set_option maxRecDepth 8192

noncomputable section

namespace Cert.Att

open Cert.KernelIdeal Cert.KernelIdeal.Gen Idealize.ShloMosaic Idealize.ShloMosaic.TcCoe

variable (c : Dev nD) (i : grid0.Coords) (arg2 : Memref sig .tc .vmem S1024x1024 .bf16) (harg2 : arg2.IsWhole)
  (arg3 : Memref sig .tc .vmem S2048x1024 .bf16) (harg3 : arg3.IsWhole) (arg4 : Memref sig .tc .vmem S4096x256 .bf16) (harg4 : arg4.IsWhole)
  (arg5 : Memref sig .tc .vmem S512x1 .f32) (harg5 : arg5.IsWhole) (arg6 : Memref sig .tc .vmem S1024x512 .bf16) (harg6 : arg6.IsWhole)
  (arg7 : Memref sig .tc .vmem S4x144x256 .f32) (harg7 : arg7.IsWhole)
  (x0 : Vec Ideal S1024x1024 .bf16) (x1 : Vec Ideal S2048x1024 .bf16) (x2 : Vec Ideal S4096x256 .bf16)

/-- The carried rows start absent. -/
theorem absent {init : Carry} (e : init = (fun _ => Ideal.ofBits .f32 0xFF800000#32, fun _ => Ideal.ofBits .f32 0xFF800000#32,
    fun _ => Ideal.ofBits .f32 0xFF800000#32, fun _ => Ideal.ofBits .f32 0xFF800000#32)) (h : Fin 4) (q : Fin 256) : init.at h (ix2 0 q) = ⊥ := by
  subst e
  match h with
  | 0 => exact ofBits_neg_inf
  | 1 => exact ofBits_neg_inf
  | 2 => exact ofBits_neg_inf
  | 3 => exact ofBits_neg_inf

/-- Tile 0 has `4 b + 0` whole blocks, `b` the second grid coordinate. -/
theorem trips0 : (k0_t1_loop i).trips = 4 * (i 1).val + 0 := by
  have hb : (i 1).val < 2 := (i 1).isLt
  show Scf.trips _ _ _ = _
  unfold k0_t1_loop
  dsimp only
  generalize (i 1).val = b at hb
  match b, hb with
  | 0, _ => decide
  | 1, _ => decide

/-- One trip of tile 0's loop. -/
theorem trip0 (k : Fin (k0_t1_loop i).trips) (hk : k.val < 8) (acc : Carry) (f : BufTy.Contents (Elt Ideal) arg7.view.ty) :
    (tripR_k0_t1 (F := Ideal) Variants.none c none i arg2 harg2 arg3 harg3 arg4 harg4 arg5 harg5 arg6 harg6 arg7 harg7
        (harg2.unread x0) (harg3.unread x1) (harg4.unread x2) k acc f,
      tripL_k0_t1 (F := Ideal) Variants.none c none i arg2 harg2 arg3 harg3 arg4 harg4 arg5 harg5 arg6 harg6 arg7 harg7
        (harg2.unread x0) (harg3.unread x1) (harg4.unread x2) k acc f)
    = (nextM acc (sL (harg2.unread x0) (harg3.unread x1) 0 k.val hk),
      nextP arg7 acc (sL (harg2.unread x0) (harg3.unread x1) 0 k.val hk) (vL (harg4.unread x2) k.val hk) f) := by
  unfold tripR_k0_t1 tripL_k0_t1 trip_k0_t1
  rfl

/-- Tile 0's loop, listed. -/
abbrev loop0 : ℕ → Carry × List (View.Piece (Elt Ideal) S4x144x256 .f32) :=
  st_k0_t1 (F := Ideal) Variants.none c none i arg2 harg2 arg3 harg3 arg4 harg4 arg5 harg5 arg6 harg6 arg7 harg7
    (harg2.unread x0) (harg3.unread x1) (harg4.unread x2) (arg7.view.writes (Elt Ideal) arg7.view.junk (⟨Rect.unit (s := S4x144x256) ![0, 0, 0] S4x144x256.size inb_S4x144x256_S4x144x256_0_0_0, k0_pay115 (F := Ideal)⟩ :: []))
    (k0_pay116, k0_pay117, k0_pay118, k0_pay119)

/-- The state after tile 0's left-over blocks, of which there are none. -/
abbrev rest0 : Carry × List (View.Piece (Elt Ideal) S4x144x256 .f32) :=
  st_k0_t2 (F := Ideal) Variants.none c none i arg2 harg2 arg3 harg3 arg4 harg4 arg5 harg5 arg6 harg6 arg7 harg7  (kernelRun0_A.sl.v15 i)
    (harg2.unread x0) (harg3.unread x1) (harg4.unread x2)
    (arg7.view.writes (Elt Ideal) arg7.view.junk ((loop0 c i arg2 harg2 arg3 harg3 arg4 harg4 arg5 harg5 arg6 harg6 arg7 harg7 x0 x1 x2 (k0_t1_loop i).trips).2 ++ ⟨Rect.unit (s := S4x144x256) ![0, 0, 0] S4x144x256.size inb_S4x144x256_S4x144x256_0_0_0, k0_pay115 (F := Ideal)⟩ :: []))
    ((loop0 c i arg2 harg2 arg3 harg3 arg4 harg4 arg5 harg5 arg6 harg6 arg7 harg7 x0 x1 x2 (k0_t1_loop i).trips).1.1, (loop0 c i arg2 harg2 arg3 harg3 arg4 harg4 arg5 harg5 arg6 harg6 arg7 harg7 x0 x1 x2 (k0_t1_loop i).trips).1.2.1, (loop0 c i arg2 harg2 arg3 harg3 arg4 harg4 arg5 harg5 arg6 harg6 arg7 harg7 x0 x1 x2 (k0_t1_loop i).trips).1.2.2.1, (loop0 c i arg2 harg2 arg3 harg3 arg4 harg4 arg5 harg5 arg6 harg6 arg7 harg7 x0 x1 x2 (k0_t1_loop i).trips).1.2.2.2)
    (Scf.trips (k0_t2_loop i).lb (k0_t2_loop i).ub (k0_t2_loop i).st)

/-- The blocks of query tile 0 before its heads are finished. -/
theorem rest0_eq : rest0 c i arg2 harg2 arg3 harg3 arg4 harg4 arg5 harg5 arg6 harg6 arg7 harg7 x0 x1 x2 = ((loop0 c i arg2 harg2 arg3 harg3 arg4 harg4 arg5 harg5 arg6 harg6 arg7 harg7 x0 x1 x2 (k0_t1_loop i).trips).1, []) := by
  unfold rest0
  rw [show Scf.trips (k0_t2_loop i).lb (k0_t2_loop i).ub (k0_t2_loop i).st = 0 from Scf.rem_trips _ _]
  rfl

/-- The stores after head 0 of query tile 0 are those of the tile's state. -/
theorem head0_0 : kernelRun0_A.sl.HS0_1_1 (F := Ideal) c i arg2 harg2 arg3 harg3 arg4 harg4 arg5 harg5 arg6 harg6 arg7 harg7 x0 x1 x2
    = headPiece arg7 0 inb_S4x144x256_S1x144x256_0_0_0 (rest0 c i arg2 harg2 arg3 harg3 arg4 harg4 arg5 harg5 arg6 harg6 arg7 harg7 x0 x1 x2).1.1
      (sD (harg2.unread x0) (harg3.unread x1) 0 (i 1).val (i 1).isLt 0) (vD (harg4.unread x2) 0 (i 1).val (i 1).isLt 0)
      ((rest0 c i arg2 harg2 arg3 harg3 arg4 harg4 arg5 harg5 arg6 harg6 arg7 harg7 x0 x1 x2).2 ++
        ((loop0 c i arg2 harg2 arg3 harg3 arg4 harg4 arg5 harg5 arg6 harg6 arg7 harg7 x0 x1 x2 (k0_t1_loop i).trips).2 ++ ⟨Rect.unit (s := S4x144x256) ![0, 0, 0] S4x144x256.size inb_S4x144x256_S4x144x256_0_0_0, k0_pay115 (F := Ideal)⟩ :: [])) := by
  unfold kernelRun0_A.sl.HS0_1_1 kernelRun0_A.sl.r_10 kernelRun0_A.sl.v65 kernelRun0_A.sl.r kernelRun0_A.sl.r_4 kernelRun0_A.sl.HS0_1
  rfl

/-- The stores after head 1 of query tile 0 are those of the tile's state. -/
theorem head0_1 : kernelRun0_A.sl.HS0_2 (F := Ideal) c i arg2 harg2 arg3 harg3 arg4 harg4 arg5 harg5 arg6 harg6 arg7 harg7 x0 x1 x2
    = headPiece arg7 1 inb_S4x144x256_S1x144x256_1_0_0 (rest0 c i arg2 harg2 arg3 harg3 arg4 harg4 arg5 harg5 arg6 harg6 arg7 harg7 x0 x1 x2).1.2.1
      (sD (harg2.unread x0) (harg3.unread x1) 0 (i 1).val (i 1).isLt 1) (vD (harg4.unread x2) 0 (i 1).val (i 1).isLt 1)
      (kernelRun0_A.sl.HS0_1_1 (F := Ideal) c i arg2 harg2 arg3 harg3 arg4 harg4 arg5 harg5 arg6 harg6 arg7 harg7 x0 x1 x2) := by
  unfold kernelRun0_A.sl.HS0_2 kernelRun0_A.sl.r_1 kernelRun0_A.sl.r_7 kernelRun0_A.sl.v94 kernelRun0_A.sl.r_5 kernelRun0_A.sl.r_6 kernelRun0_A.sl.cst_16 kernelRun0_A.sl.HS0_1
  rfl

/-- The stores after head 2 of query tile 0 are those of the tile's state. -/
theorem head0_2 : kernelRun0_A.sl.HS0_3 (F := Ideal) c i arg2 harg2 arg3 harg3 arg4 harg4 arg5 harg5 arg6 harg6 arg7 harg7 x0 x1 x2
    = headPiece arg7 2 inb_S4x144x256_S1x144x256_2_0_0 (rest0 c i arg2 harg2 arg3 harg3 arg4 harg4 arg5 harg5 arg6 harg6 arg7 harg7 x0 x1 x2).1.2.2.1
      (sD (harg2.unread x0) (harg3.unread x1) 0 (i 1).val (i 1).isLt 2) (vD (harg4.unread x2) 0 (i 1).val (i 1).isLt 2)
      (kernelRun0_A.sl.HS0_2 (F := Ideal) c i arg2 harg2 arg3 harg3 arg4 harg4 arg5 harg5 arg6 harg6 arg7 harg7 x0 x1 x2) := by
  unfold kernelRun0_A.sl.HS0_3 kernelRun0_A.sl.r_11 kernelRun0_A.sl.r_12 kernelRun0_A.sl.r_2 kernelRun0_A.sl.r_8 kernelRun0_A.sl.v123 kernelRun0_A.sl.HS0_1
  rfl

/-- The stores after head 3 of query tile 0 are those of the tile's state. -/
theorem head0_3 : kernelRun0_A.sl.HS0_4 (F := Ideal) c i arg2 harg2 arg3 harg3 arg4 harg4 arg5 harg5 arg6 harg6 arg7 harg7 x0 x1 x2
    = headPiece arg7 3 inb_S4x144x256_S1x144x256_3_0_0 (rest0 c i arg2 harg2 arg3 harg3 arg4 harg4 arg5 harg5 arg6 harg6 arg7 harg7 x0 x1 x2).1.2.2.2
      (sD (harg2.unread x0) (harg3.unread x1) 0 (i 1).val (i 1).isLt 3) (vD (harg4.unread x2) 0 (i 1).val (i 1).isLt 3)
      (kernelRun0_A.sl.HS0_3 (F := Ideal) c i arg2 harg2 arg3 harg3 arg4 harg4 arg5 harg5 arg6 harg6 arg7 harg7 x0 x1 x2) := by
  unfold kernelRun0_A.sl.HS0_4 kernelRun0_A.sl.r_13 kernelRun0_A.sl.r_3 kernelRun0_A.sl.r_9 kernelRun0_A.sl.v152 kernelRun0_A.sl.HS0_1
  rfl

/-- The accumulator after tile 0. -/
theorem acc0 (h : Fin 4) (r : Fin 144) (q : Fin 256) :
    rd arg7 (arg7.view.writes (Elt Ideal) arg7.view.junk (kernelRun0_A.sl.HS0_4 (F := Ideal) c i arg2 harg2 arg3 harg3 arg4 harg4 arg5 harg5 arg6 harg6 arg7 harg7 x0 x1 x2)) h r q
      = wsum (Sc x0 x1 0 (256 * (4 * (i 1).val + 0)) h q) (Vv x2 h r) (256 * (4 * (i 1).val + 0) + 256) := by
  have hb : (i 1).val < 2 := (i 1).isLt
  have ht := trips0 i
  rw [head0_3, head0_2, head0_1, head0_0]
  exact tile_acc (x0 := x0) (x1 := x1) (x2 := x2) (harg2.read_unread x0) (harg3.read_unread x1) (harg4.read_unread x2) (i 1).val hb 0 _ ht
    (loop0 c i arg2 harg2 arg3 harg3 arg4 harg4 arg5 harg5 arg6 harg6 arg7 harg7 x0 x1 x2) _ _ _ _ (absent rfl) (fun _ => Ideal.ofBits_zero_f32) rfl
    (fun k hk => (st_k0_t1_succ (F := Ideal) Variants.none c none i arg2 harg2 arg3 harg3 arg4 harg4 arg5 harg5 arg6 harg6 arg7 harg7  (harg2.unread x0) (harg3.unread x1) (harg4.unread x2) _ _ ⟨k, hk⟩).trans
      (congrArg (fun e => (e.1, e.2 ++ _)) (trip0 c i arg2 harg2 arg3 harg3 arg4 harg4 arg5 harg5 arg6 harg6 arg7 harg7 x0 x1 x2 ⟨k, hk⟩ (by omega) _ _))) _ (rest0_eq c i arg2 harg2 arg3 harg3 arg4 harg4 arg5 harg5 arg6 harg6 arg7 harg7 x0 x1 x2) h r q

/-- Tile 1 has `4 b + 1` whole blocks, `b` the second grid coordinate. -/
theorem trips1 : (k0_t3_loop i).trips = 4 * (i 1).val + 1 := by
  have hb : (i 1).val < 2 := (i 1).isLt
  show Scf.trips _ _ _ = _
  unfold k0_t3_loop
  dsimp only
  generalize (i 1).val = b at hb
  match b, hb with
  | 0, _ => decide
  | 1, _ => decide

/-- One trip of tile 1's loop. -/
theorem trip1 (k : Fin (k0_t3_loop i).trips) (hk : k.val < 8) (acc : Carry) (f : BufTy.Contents (Elt Ideal) arg7.view.ty) :
    (tripR_k0_t3 (F := Ideal) Variants.none c none i arg2 harg2 arg3 harg3 arg4 harg4 arg5 harg5 arg6 harg6 arg7 harg7 (BitVec.ofNat 32 (i 1).val) k0_pay114 (kernelRun0_A.sl.r_16 c i arg2 harg2 arg3 harg3 arg4 harg4 arg5 harg5 arg6 harg6 arg7 harg7 x0 x1 x2) (kernelRun0_A.sl.r_17 c i arg2 harg2 arg3 harg3 arg4 harg4 arg5 harg5 arg6 harg6 arg7 harg7 x0 x1 x2)
        (harg2.unread x0) (harg3.unread x1) (harg4.unread x2) k acc f,
      tripL_k0_t3 (F := Ideal) Variants.none c none i arg2 harg2 arg3 harg3 arg4 harg4 arg5 harg5 arg6 harg6 arg7 harg7 (BitVec.ofNat 32 (i 1).val) k0_pay114 (kernelRun0_A.sl.r_16 c i arg2 harg2 arg3 harg3 arg4 harg4 arg5 harg5 arg6 harg6 arg7 harg7 x0 x1 x2) (kernelRun0_A.sl.r_17 c i arg2 harg2 arg3 harg3 arg4 harg4 arg5 harg5 arg6 harg6 arg7 harg7 x0 x1 x2)
        (harg2.unread x0) (harg3.unread x1) (harg4.unread x2) k acc f)
    = (nextM acc (sL (harg2.unread x0) (harg3.unread x1) 1 k.val hk),
      nextP arg7 acc (sL (harg2.unread x0) (harg3.unread x1) 1 k.val hk) (vL (harg4.unread x2) k.val hk) f) := by
  unfold tripR_k0_t3 tripL_k0_t3 trip_k0_t3
  rfl

/-- Tile 1's loop, listed. -/
abbrev loop1 : ℕ → Carry × List (View.Piece (Elt Ideal) S4x144x256 .f32) :=
  st_k0_t3 (F := Ideal) Variants.none c none i arg2 harg2 arg3 harg3 arg4 harg4 arg5 harg5 arg6 harg6 arg7 harg7 (BitVec.ofNat 32 (i 1).val) k0_pay114 (kernelRun0_A.sl.r_16 c i arg2 harg2 arg3 harg3 arg4 harg4 arg5 harg5 arg6 harg6 arg7 harg7 x0 x1 x2) (kernelRun0_A.sl.r_17 c i arg2 harg2 arg3 harg3 arg4 harg4 arg5 harg5 arg6 harg6 arg7 harg7 x0 x1 x2)
    (harg2.unread x0) (harg3.unread x1) (harg4.unread x2) (arg7.view.writes (Elt Ideal) arg7.view.junk (⟨Rect.unit (s := S4x144x256) ![0, 0, 0] S4x144x256.size inb_S4x144x256_S4x144x256_0_0_0, k0_pay146 (F := Ideal)⟩ :: kernelRun0_A.sl.HS0_4 (F := Ideal) c i arg2 harg2 arg3 harg3 arg4 harg4 arg5 harg5 arg6 harg6 arg7 harg7 x0 x1 x2))
    (k0_pay147, k0_pay148, k0_pay149, k0_pay150)

/-- The state after tile 1's left-over blocks, of which there are none. -/
abbrev rest1 : Carry × List (View.Piece (Elt Ideal) S4x144x256 .f32) :=
  st_k0_t4 (F := Ideal) Variants.none c none i arg2 harg2 arg3 harg3 arg4 harg4 arg5 harg5 arg6 harg6 arg7 harg7 (BitVec.ofNat 32 (i 1).val) k0_pay114 (kernelRun0_A.sl.r_16 c i arg2 harg2 arg3 harg3 arg4 harg4 arg5 harg5 arg6 harg6 arg7 harg7 x0 x1 x2) (kernelRun0_A.sl.r_17 c i arg2 harg2 arg3 harg3 arg4 harg4 arg5 harg5 arg6 harg6 arg7 harg7 x0 x1 x2) (kernelRun0_A.sl.v267 i)
    (harg2.unread x0) (harg3.unread x1) (harg4.unread x2)
    (arg7.view.writes (Elt Ideal) arg7.view.junk ((loop1 c i arg2 harg2 arg3 harg3 arg4 harg4 arg5 harg5 arg6 harg6 arg7 harg7 x0 x1 x2 (k0_t3_loop i).trips).2 ++ ⟨Rect.unit (s := S4x144x256) ![0, 0, 0] S4x144x256.size inb_S4x144x256_S4x144x256_0_0_0, k0_pay146 (F := Ideal)⟩ :: kernelRun0_A.sl.HS0_4 (F := Ideal) c i arg2 harg2 arg3 harg3 arg4 harg4 arg5 harg5 arg6 harg6 arg7 harg7 x0 x1 x2))
    ((loop1 c i arg2 harg2 arg3 harg3 arg4 harg4 arg5 harg5 arg6 harg6 arg7 harg7 x0 x1 x2 (k0_t3_loop i).trips).1.1, (loop1 c i arg2 harg2 arg3 harg3 arg4 harg4 arg5 harg5 arg6 harg6 arg7 harg7 x0 x1 x2 (k0_t3_loop i).trips).1.2.1, (loop1 c i arg2 harg2 arg3 harg3 arg4 harg4 arg5 harg5 arg6 harg6 arg7 harg7 x0 x1 x2 (k0_t3_loop i).trips).1.2.2.1, (loop1 c i arg2 harg2 arg3 harg3 arg4 harg4 arg5 harg5 arg6 harg6 arg7 harg7 x0 x1 x2 (k0_t3_loop i).trips).1.2.2.2)
    (Scf.trips (k0_t4_loop i).lb (k0_t4_loop i).ub (k0_t4_loop i).st)

/-- The blocks of query tile 1 before its heads are finished. -/
theorem rest1_eq : rest1 c i arg2 harg2 arg3 harg3 arg4 harg4 arg5 harg5 arg6 harg6 arg7 harg7 x0 x1 x2 = ((loop1 c i arg2 harg2 arg3 harg3 arg4 harg4 arg5 harg5 arg6 harg6 arg7 harg7 x0 x1 x2 (k0_t3_loop i).trips).1, []) := by
  unfold rest1
  rw [show Scf.trips (k0_t4_loop i).lb (k0_t4_loop i).ub (k0_t4_loop i).st = 0 from Scf.rem_trips _ _]
  rfl

/-- The stores after head 0 of query tile 1 are those of the tile's state. -/
theorem head1_0 : kernelRun0_A.sl.HS0_1_2 (F := Ideal) c i arg2 harg2 arg3 harg3 arg4 harg4 arg5 harg5 arg6 harg6 arg7 harg7 x0 x1 x2
    = headPiece arg7 0 inb_S4x144x256_S1x144x256_0_0_0 (rest1 c i arg2 harg2 arg3 harg3 arg4 harg4 arg5 harg5 arg6 harg6 arg7 harg7 x0 x1 x2).1.1
      (sD (harg2.unread x0) (harg3.unread x1) 1 (i 1).val (i 1).isLt 0) (vD (harg4.unread x2) 1 (i 1).val (i 1).isLt 0)
      ((rest1 c i arg2 harg2 arg3 harg3 arg4 harg4 arg5 harg5 arg6 harg6 arg7 harg7 x0 x1 x2).2 ++
        ((loop1 c i arg2 harg2 arg3 harg3 arg4 harg4 arg5 harg5 arg6 harg6 arg7 harg7 x0 x1 x2 (k0_t3_loop i).trips).2 ++ ⟨Rect.unit (s := S4x144x256) ![0, 0, 0] S4x144x256.size inb_S4x144x256_S4x144x256_0_0_0, k0_pay146 (F := Ideal)⟩ :: kernelRun0_A.sl.HS0_4 (F := Ideal) c i arg2 harg2 arg3 harg3 arg4 harg4 arg5 harg5 arg6 harg6 arg7 harg7 x0 x1 x2)) := by
  unfold kernelRun0_A.sl.HS0_1_2 kernelRun0_A.sl.r_25 kernelRun0_A.sl.r_26 kernelRun0_A.sl.r_27 kernelRun0_A.sl.v317 kernelRun0_A.sl.r_18
  rfl

/-- The stores after head 1 of query tile 1 are those of the tile's state. -/
theorem head1_1 : kernelRun0_A.sl.HS0_2_1 (F := Ideal) c i arg2 harg2 arg3 harg3 arg4 harg4 arg5 harg5 arg6 harg6 arg7 harg7 x0 x1 x2
    = headPiece arg7 1 inb_S4x144x256_S1x144x256_1_0_0 (rest1 c i arg2 harg2 arg3 harg3 arg4 harg4 arg5 harg5 arg6 harg6 arg7 harg7 x0 x1 x2).1.2.1
      (sD (harg2.unread x0) (harg3.unread x1) 1 (i 1).val (i 1).isLt 1) (vD (harg4.unread x2) 1 (i 1).val (i 1).isLt 1)
      (kernelRun0_A.sl.HS0_1_2 (F := Ideal) c i arg2 harg2 arg3 harg3 arg4 harg4 arg5 harg5 arg6 harg6 arg7 harg7 x0 x1 x2) := by
  unfold kernelRun0_A.sl.HS0_2_1 kernelRun0_A.sl.r_19 kernelRun0_A.sl.r_22 kernelRun0_A.sl.v346
  rfl

/-- The stores after head 2 of query tile 1 are those of the tile's state. -/
theorem head1_2 : kernelRun0_A.sl.HS0_3_1 (F := Ideal) c i arg2 harg2 arg3 harg3 arg4 harg4 arg5 harg5 arg6 harg6 arg7 harg7 x0 x1 x2
    = headPiece arg7 2 inb_S4x144x256_S1x144x256_2_0_0 (rest1 c i arg2 harg2 arg3 harg3 arg4 harg4 arg5 harg5 arg6 harg6 arg7 harg7 x0 x1 x2).1.2.2.1
      (sD (harg2.unread x0) (harg3.unread x1) 1 (i 1).val (i 1).isLt 2) (vD (harg4.unread x2) 1 (i 1).val (i 1).isLt 2)
      (kernelRun0_A.sl.HS0_2_1 (F := Ideal) c i arg2 harg2 arg3 harg3 arg4 harg4 arg5 harg5 arg6 harg6 arg7 harg7 x0 x1 x2) := by
  unfold kernelRun0_A.sl.HS0_3_1 kernelRun0_A.sl.r_20 kernelRun0_A.sl.r_23 kernelRun0_A.sl.v375
  rfl

/-- The stores after head 3 of query tile 1 are those of the tile's state. -/
theorem head1_3 : kernelRun0_A.sl.HS0_4_1 (F := Ideal) c i arg2 harg2 arg3 harg3 arg4 harg4 arg5 harg5 arg6 harg6 arg7 harg7 x0 x1 x2
    = headPiece arg7 3 inb_S4x144x256_S1x144x256_3_0_0 (rest1 c i arg2 harg2 arg3 harg3 arg4 harg4 arg5 harg5 arg6 harg6 arg7 harg7 x0 x1 x2).1.2.2.2
      (sD (harg2.unread x0) (harg3.unread x1) 1 (i 1).val (i 1).isLt 3) (vD (harg4.unread x2) 1 (i 1).val (i 1).isLt 3)
      (kernelRun0_A.sl.HS0_3_1 (F := Ideal) c i arg2 harg2 arg3 harg3 arg4 harg4 arg5 harg5 arg6 harg6 arg7 harg7 x0 x1 x2) := by
  unfold kernelRun0_A.sl.HS0_4_1 kernelRun0_A.sl.r_28 kernelRun0_A.sl.r_29 kernelRun0_A.sl.r_21 kernelRun0_A.sl.r_24 kernelRun0_A.sl.v404
  rfl

/-- The accumulator after tile 1. -/
theorem acc1 (h : Fin 4) (r : Fin 144) (q : Fin 256) :
    rd arg7 (arg7.view.writes (Elt Ideal) arg7.view.junk (kernelRun0_A.sl.HS0_4_1 (F := Ideal) c i arg2 harg2 arg3 harg3 arg4 harg4 arg5 harg5 arg6 harg6 arg7 harg7 x0 x1 x2)) h r q
      = wsum (Sc x0 x1 1 (256 * (4 * (i 1).val + 1)) h q) (Vv x2 h r) (256 * (4 * (i 1).val + 1) + 256) := by
  have hb : (i 1).val < 2 := (i 1).isLt
  have ht := trips1 i
  rw [head1_3, head1_2, head1_1, head1_0]
  exact tile_acc (x0 := x0) (x1 := x1) (x2 := x2) (harg2.read_unread x0) (harg3.read_unread x1) (harg4.read_unread x2) (i 1).val hb 1 _ ht
    (loop1 c i arg2 harg2 arg3 harg3 arg4 harg4 arg5 harg5 arg6 harg6 arg7 harg7 x0 x1 x2) _ _ _ _ (absent rfl) (fun _ => Ideal.ofBits_zero_f32) rfl
    (fun k hk => (st_k0_t3_succ (F := Ideal) Variants.none c none i arg2 harg2 arg3 harg3 arg4 harg4 arg5 harg5 arg6 harg6 arg7 harg7 (BitVec.ofNat 32 (i 1).val) k0_pay114 (kernelRun0_A.sl.r_16 c i arg2 harg2 arg3 harg3 arg4 harg4 arg5 harg5 arg6 harg6 arg7 harg7 x0 x1 x2) (kernelRun0_A.sl.r_17 c i arg2 harg2 arg3 harg3 arg4 harg4 arg5 harg5 arg6 harg6 arg7 harg7 x0 x1 x2) (harg2.unread x0) (harg3.unread x1) (harg4.unread x2) _ _ ⟨k, hk⟩).trans
      (congrArg (fun e => (e.1, e.2 ++ _)) (trip1 c i arg2 harg2 arg3 harg3 arg4 harg4 arg5 harg5 arg6 harg6 arg7 harg7 x0 x1 x2 ⟨k, hk⟩ (by omega) _ _))) _ (rest1_eq c i arg2 harg2 arg3 harg3 arg4 harg4 arg5 harg5 arg6 harg6 arg7 harg7 x0 x1 x2) h r q

/-- Tile 2 has `4 b + 2` whole blocks, `b` the second grid coordinate. -/
theorem trips2 : (k0_t5_loop i).trips = 4 * (i 1).val + 2 := by
  have hb : (i 1).val < 2 := (i 1).isLt
  show Scf.trips _ _ _ = _
  unfold k0_t5_loop
  dsimp only
  generalize (i 1).val = b at hb
  match b, hb with
  | 0, _ => decide
  | 1, _ => decide

/-- One trip of tile 2's loop. -/
theorem trip2 (k : Fin (k0_t5_loop i).trips) (hk : k.val < 8) (acc : Carry) (f : BufTy.Contents (Elt Ideal) arg7.view.ty) :
    (tripR_k0_t5 (F := Ideal) Variants.none c none i arg2 harg2 arg3 harg3 arg4 harg4 arg5 harg5 arg6 harg6 arg7 harg7 k0_pay114 (kernelRun0_A.sl.v506 i) k0_pay173 k0_pay174 k0_pay175 k0_pay176 0#32
        (harg2.unread x0) (harg3.unread x1) (harg4.unread x2) k acc f,
      tripL_k0_t5 (F := Ideal) Variants.none c none i arg2 harg2 arg3 harg3 arg4 harg4 arg5 harg5 arg6 harg6 arg7 harg7 k0_pay114 (kernelRun0_A.sl.v506 i) k0_pay173 k0_pay174 k0_pay175 k0_pay176 0#32
        (harg2.unread x0) (harg3.unread x1) (harg4.unread x2) k acc f)
    = (nextM acc (sL (harg2.unread x0) (harg3.unread x1) 2 k.val hk),
      nextP arg7 acc (sL (harg2.unread x0) (harg3.unread x1) 2 k.val hk) (vL (harg4.unread x2) k.val hk) f) := by
  unfold tripR_k0_t5 tripL_k0_t5 trip_k0_t5
  rfl

/-- Tile 2's loop, listed. -/
abbrev loop2 : ℕ → Carry × List (View.Piece (Elt Ideal) S4x144x256 .f32) :=
  st_k0_t5 (F := Ideal) Variants.none c none i arg2 harg2 arg3 harg3 arg4 harg4 arg5 harg5 arg6 harg6 arg7 harg7 k0_pay114 (kernelRun0_A.sl.v506 i) k0_pay173 k0_pay174 k0_pay175 k0_pay176 0#32
    (harg2.unread x0) (harg3.unread x1) (harg4.unread x2) (arg7.view.writes (Elt Ideal) arg7.view.junk (⟨Rect.unit (s := S4x144x256) ![0, 0, 0] S4x144x256.size inb_S4x144x256_S4x144x256_0_0_0, k0_pay172 (F := Ideal)⟩ :: kernelRun0_A.sl.HS0_4_1 (F := Ideal) c i arg2 harg2 arg3 harg3 arg4 harg4 arg5 harg5 arg6 harg6 arg7 harg7 x0 x1 x2))
    (k0_pay173, k0_pay174, k0_pay175, k0_pay176)

/-- The state after tile 2's left-over blocks, of which there are none. -/
abbrev rest2 : Carry × List (View.Piece (Elt Ideal) S4x144x256 .f32) :=
  st_k0_t6 (F := Ideal) Variants.none c none i arg2 harg2 arg3 harg3 arg4 harg4 arg5 harg5 arg6 harg6 arg7 harg7 k0_pay114 (kernelRun0_A.sl.v506 i) k0_pay173 k0_pay174 k0_pay175 k0_pay176 0#32 (kernelRun0_A.sl.v519 i)
    (harg2.unread x0) (harg3.unread x1) (harg4.unread x2)
    (arg7.view.writes (Elt Ideal) arg7.view.junk ((loop2 c i arg2 harg2 arg3 harg3 arg4 harg4 arg5 harg5 arg6 harg6 arg7 harg7 x0 x1 x2 (k0_t5_loop i).trips).2 ++ ⟨Rect.unit (s := S4x144x256) ![0, 0, 0] S4x144x256.size inb_S4x144x256_S4x144x256_0_0_0, k0_pay172 (F := Ideal)⟩ :: kernelRun0_A.sl.HS0_4_1 (F := Ideal) c i arg2 harg2 arg3 harg3 arg4 harg4 arg5 harg5 arg6 harg6 arg7 harg7 x0 x1 x2))
    ((loop2 c i arg2 harg2 arg3 harg3 arg4 harg4 arg5 harg5 arg6 harg6 arg7 harg7 x0 x1 x2 (k0_t5_loop i).trips).1.1, (loop2 c i arg2 harg2 arg3 harg3 arg4 harg4 arg5 harg5 arg6 harg6 arg7 harg7 x0 x1 x2 (k0_t5_loop i).trips).1.2.1, (loop2 c i arg2 harg2 arg3 harg3 arg4 harg4 arg5 harg5 arg6 harg6 arg7 harg7 x0 x1 x2 (k0_t5_loop i).trips).1.2.2.1, (loop2 c i arg2 harg2 arg3 harg3 arg4 harg4 arg5 harg5 arg6 harg6 arg7 harg7 x0 x1 x2 (k0_t5_loop i).trips).1.2.2.2)
    (Scf.trips (k0_t6_loop i).lb (k0_t6_loop i).ub (k0_t6_loop i).st)

/-- The blocks of query tile 2 before its heads are finished. -/
theorem rest2_eq : rest2 c i arg2 harg2 arg3 harg3 arg4 harg4 arg5 harg5 arg6 harg6 arg7 harg7 x0 x1 x2 = ((loop2 c i arg2 harg2 arg3 harg3 arg4 harg4 arg5 harg5 arg6 harg6 arg7 harg7 x0 x1 x2 (k0_t5_loop i).trips).1, []) := by
  unfold rest2
  rw [show Scf.trips (k0_t6_loop i).lb (k0_t6_loop i).ub (k0_t6_loop i).st = 0 from Scf.rem_trips _ _]
  rfl

/-- The stores after head 0 of query tile 2 are those of the tile's state. -/
theorem head2_0 : kernelRun0_A.sl.HS0_1_3 (F := Ideal) c i arg2 harg2 arg3 harg3 arg4 harg4 arg5 harg5 arg6 harg6 arg7 harg7 x0 x1 x2
    = headPiece arg7 0 inb_S4x144x256_S1x144x256_0_0_0 (rest2 c i arg2 harg2 arg3 harg3 arg4 harg4 arg5 harg5 arg6 harg6 arg7 harg7 x0 x1 x2).1.1
      (sD (harg2.unread x0) (harg3.unread x1) 2 (i 1).val (i 1).isLt 0) (vD (harg4.unread x2) 2 (i 1).val (i 1).isLt 0)
      ((rest2 c i arg2 harg2 arg3 harg3 arg4 harg4 arg5 harg5 arg6 harg6 arg7 harg7 x0 x1 x2).2 ++
        ((loop2 c i arg2 harg2 arg3 harg3 arg4 harg4 arg5 harg5 arg6 harg6 arg7 harg7 x0 x1 x2 (k0_t5_loop i).trips).2 ++ ⟨Rect.unit (s := S4x144x256) ![0, 0, 0] S4x144x256.size inb_S4x144x256_S4x144x256_0_0_0, k0_pay172 (F := Ideal)⟩ :: kernelRun0_A.sl.HS0_4_1 (F := Ideal) c i arg2 harg2 arg3 harg3 arg4 harg4 arg5 harg5 arg6 harg6 arg7 harg7 x0 x1 x2)) := by
  unfold kernelRun0_A.sl.HS0_1_3 kernelRun0_A.sl.r_31 kernelRun0_A.sl.r_35 kernelRun0_A.sl.v569
  rfl

/-- The stores after head 1 of query tile 2 are those of the tile's state. -/
theorem head2_1 : kernelRun0_A.sl.HS0_2_2 (F := Ideal) c i arg2 harg2 arg3 harg3 arg4 harg4 arg5 harg5 arg6 harg6 arg7 harg7 x0 x1 x2
    = headPiece arg7 1 inb_S4x144x256_S1x144x256_1_0_0 (rest2 c i arg2 harg2 arg3 harg3 arg4 harg4 arg5 harg5 arg6 harg6 arg7 harg7 x0 x1 x2).1.2.1
      (sD (harg2.unread x0) (harg3.unread x1) 2 (i 1).val (i 1).isLt 1) (vD (harg4.unread x2) 2 (i 1).val (i 1).isLt 1)
      (kernelRun0_A.sl.HS0_1_3 (F := Ideal) c i arg2 harg2 arg3 harg3 arg4 harg4 arg5 harg5 arg6 harg6 arg7 harg7 x0 x1 x2) := by
  unfold kernelRun0_A.sl.HS0_2_2 kernelRun0_A.sl.r_39 kernelRun0_A.sl.r_40 kernelRun0_A.sl.r_41 kernelRun0_A.sl.r_32 kernelRun0_A.sl.r_36 kernelRun0_A.sl.v598
  rfl

/-- The stores after head 2 of query tile 2 are those of the tile's state. -/
theorem head2_2 : kernelRun0_A.sl.HS0_3_2 (F := Ideal) c i arg2 harg2 arg3 harg3 arg4 harg4 arg5 harg5 arg6 harg6 arg7 harg7 x0 x1 x2
    = headPiece arg7 2 inb_S4x144x256_S1x144x256_2_0_0 (rest2 c i arg2 harg2 arg3 harg3 arg4 harg4 arg5 harg5 arg6 harg6 arg7 harg7 x0 x1 x2).1.2.2.1
      (sD (harg2.unread x0) (harg3.unread x1) 2 (i 1).val (i 1).isLt 2) (vD (harg4.unread x2) 2 (i 1).val (i 1).isLt 2)
      (kernelRun0_A.sl.HS0_2_2 (F := Ideal) c i arg2 harg2 arg3 harg3 arg4 harg4 arg5 harg5 arg6 harg6 arg7 harg7 x0 x1 x2) := by
  unfold kernelRun0_A.sl.HS0_3_2 kernelRun0_A.sl.r_33 kernelRun0_A.sl.r_37 kernelRun0_A.sl.v627
  rfl

/-- The stores after head 3 of query tile 2 are those of the tile's state. -/
theorem head2_3 : kernelRun0_A.sl.HS0_4_2 (F := Ideal) c i arg2 harg2 arg3 harg3 arg4 harg4 arg5 harg5 arg6 harg6 arg7 harg7 x0 x1 x2
    = headPiece arg7 3 inb_S4x144x256_S1x144x256_3_0_0 (rest2 c i arg2 harg2 arg3 harg3 arg4 harg4 arg5 harg5 arg6 harg6 arg7 harg7 x0 x1 x2).1.2.2.2
      (sD (harg2.unread x0) (harg3.unread x1) 2 (i 1).val (i 1).isLt 3) (vD (harg4.unread x2) 2 (i 1).val (i 1).isLt 3)
      (kernelRun0_A.sl.HS0_3_2 (F := Ideal) c i arg2 harg2 arg3 harg3 arg4 harg4 arg5 harg5 arg6 harg6 arg7 harg7 x0 x1 x2) := by
  unfold kernelRun0_A.sl.HS0_4_2 kernelRun0_A.sl.r_34 kernelRun0_A.sl.r_38 kernelRun0_A.sl.v636 kernelRun0_A.sl.v637 kernelRun0_A.sl.v656
  rfl

/-- The accumulator after tile 2. -/
theorem acc2 (h : Fin 4) (r : Fin 144) (q : Fin 256) :
    rd arg7 (arg7.view.writes (Elt Ideal) arg7.view.junk (kernelRun0_A.sl.HS0_4_2 (F := Ideal) c i arg2 harg2 arg3 harg3 arg4 harg4 arg5 harg5 arg6 harg6 arg7 harg7 x0 x1 x2)) h r q
      = wsum (Sc x0 x1 2 (256 * (4 * (i 1).val + 2)) h q) (Vv x2 h r) (256 * (4 * (i 1).val + 2) + 256) := by
  have hb : (i 1).val < 2 := (i 1).isLt
  have ht := trips2 i
  rw [head2_3, head2_2, head2_1, head2_0]
  exact tile_acc (x0 := x0) (x1 := x1) (x2 := x2) (harg2.read_unread x0) (harg3.read_unread x1) (harg4.read_unread x2) (i 1).val hb 2 _ ht
    (loop2 c i arg2 harg2 arg3 harg3 arg4 harg4 arg5 harg5 arg6 harg6 arg7 harg7 x0 x1 x2) _ _ _ _ (absent rfl) (fun _ => Ideal.ofBits_zero_f32) rfl
    (fun k hk => (st_k0_t5_succ (F := Ideal) Variants.none c none i arg2 harg2 arg3 harg3 arg4 harg4 arg5 harg5 arg6 harg6 arg7 harg7 k0_pay114 (kernelRun0_A.sl.v506 i) k0_pay173 k0_pay174 k0_pay175 k0_pay176 0#32 (harg2.unread x0) (harg3.unread x1) (harg4.unread x2) _ _ ⟨k, hk⟩).trans
      (congrArg (fun e => (e.1, e.2 ++ _)) (trip2 c i arg2 harg2 arg3 harg3 arg4 harg4 arg5 harg5 arg6 harg6 arg7 harg7 x0 x1 x2 ⟨k, hk⟩ (by omega) _ _))) _ (rest2_eq c i arg2 harg2 arg3 harg3 arg4 harg4 arg5 harg5 arg6 harg6 arg7 harg7 x0 x1 x2) h r q

/-- Tile 3 has `4 b + 3` whole blocks, `b` the second grid coordinate. -/
theorem trips3 : (k0_t7_loop i).trips = 4 * (i 1).val + 3 := by
  have hb : (i 1).val < 2 := (i 1).isLt
  show Scf.trips _ _ _ = _
  unfold k0_t7_loop
  dsimp only
  generalize (i 1).val = b at hb
  match b, hb with
  | 0, _ => decide
  | 1, _ => decide

/-- One trip of tile 3's loop. -/
theorem trip3 (k : Fin (k0_t7_loop i).trips) (hk : k.val < 8) (acc : Carry) (f : BufTy.Contents (Elt Ideal) arg7.view.ty) :
    (tripR_k0_t7 (F := Ideal) Variants.none c none i arg2 harg2 arg3 harg3 arg4 harg4 arg5 harg5 arg6 harg6 arg7 harg7 k0_pay114 (kernelRun0_A.sl.v758 i) kernelRun0_A.sl.cst_332
        (harg2.unread x0) (harg3.unread x1) (harg4.unread x2) k acc f,
      tripL_k0_t7 (F := Ideal) Variants.none c none i arg2 harg2 arg3 harg3 arg4 harg4 arg5 harg5 arg6 harg6 arg7 harg7 k0_pay114 (kernelRun0_A.sl.v758 i) kernelRun0_A.sl.cst_332
        (harg2.unread x0) (harg3.unread x1) (harg4.unread x2) k acc f)
    = (nextM acc (sL (harg2.unread x0) (harg3.unread x1) 3 k.val hk),
      nextP arg7 acc (sL (harg2.unread x0) (harg3.unread x1) 3 k.val hk) (vL (harg4.unread x2) k.val hk) f) := by
  unfold tripR_k0_t7 tripL_k0_t7 trip_k0_t7
  rfl

/-- Tile 3's loop, listed. -/
abbrev loop3 : ℕ → Carry × List (View.Piece (Elt Ideal) S4x144x256 .f32) :=
  st_k0_t7 (F := Ideal) Variants.none c none i arg2 harg2 arg3 harg3 arg4 harg4 arg5 harg5 arg6 harg6 arg7 harg7 k0_pay114 (kernelRun0_A.sl.v758 i) kernelRun0_A.sl.cst_332
    (harg2.unread x0) (harg3.unread x1) (harg4.unread x2) (arg7.view.writes (Elt Ideal) arg7.view.junk (⟨Rect.unit (s := S4x144x256) ![0, 0, 0] S4x144x256.size inb_S4x144x256_S4x144x256_0_0_0, k0_pay202 (F := Ideal) kernelRun0_A.sl.cst_332⟩ :: kernelRun0_A.sl.HS0_4_2 (F := Ideal) c i arg2 harg2 arg3 harg3 arg4 harg4 arg5 harg5 arg6 harg6 arg7 harg7 x0 x1 x2))
    (k0_pay203, k0_pay204, k0_pay205, k0_pay206)

/-- The state after tile 3's left-over blocks, of which there are none. -/
abbrev rest3 : Carry × List (View.Piece (Elt Ideal) S4x144x256 .f32) :=
  st_k0_t8 (F := Ideal) Variants.none c none i arg2 harg2 arg3 harg3 arg4 harg4 arg5 harg5 arg6 harg6 arg7 harg7 k0_pay114 (kernelRun0_A.sl.v758 i) kernelRun0_A.sl.cst_332 (kernelRun0_A.sl.v771 i)
    (harg2.unread x0) (harg3.unread x1) (harg4.unread x2)
    (arg7.view.writes (Elt Ideal) arg7.view.junk ((loop3 c i arg2 harg2 arg3 harg3 arg4 harg4 arg5 harg5 arg6 harg6 arg7 harg7 x0 x1 x2 (k0_t7_loop i).trips).2 ++ ⟨Rect.unit (s := S4x144x256) ![0, 0, 0] S4x144x256.size inb_S4x144x256_S4x144x256_0_0_0, k0_pay202 (F := Ideal) kernelRun0_A.sl.cst_332⟩ :: kernelRun0_A.sl.HS0_4_2 (F := Ideal) c i arg2 harg2 arg3 harg3 arg4 harg4 arg5 harg5 arg6 harg6 arg7 harg7 x0 x1 x2))
    ((loop3 c i arg2 harg2 arg3 harg3 arg4 harg4 arg5 harg5 arg6 harg6 arg7 harg7 x0 x1 x2 (k0_t7_loop i).trips).1.1, (loop3 c i arg2 harg2 arg3 harg3 arg4 harg4 arg5 harg5 arg6 harg6 arg7 harg7 x0 x1 x2 (k0_t7_loop i).trips).1.2.1, (loop3 c i arg2 harg2 arg3 harg3 arg4 harg4 arg5 harg5 arg6 harg6 arg7 harg7 x0 x1 x2 (k0_t7_loop i).trips).1.2.2.1, (loop3 c i arg2 harg2 arg3 harg3 arg4 harg4 arg5 harg5 arg6 harg6 arg7 harg7 x0 x1 x2 (k0_t7_loop i).trips).1.2.2.2)
    (Scf.trips (k0_t8_loop i).lb (k0_t8_loop i).ub (k0_t8_loop i).st)

/-- The blocks of query tile 3 before its heads are finished. -/
theorem rest3_eq : rest3 c i arg2 harg2 arg3 harg3 arg4 harg4 arg5 harg5 arg6 harg6 arg7 harg7 x0 x1 x2 = ((loop3 c i arg2 harg2 arg3 harg3 arg4 harg4 arg5 harg5 arg6 harg6 arg7 harg7 x0 x1 x2 (k0_t7_loop i).trips).1, []) := by
  unfold rest3
  rw [show Scf.trips (k0_t8_loop i).lb (k0_t8_loop i).ub (k0_t8_loop i).st = 0 from Scf.rem_trips _ _]
  rfl

/-- The stores after head 0 of query tile 3 are those of the tile's state. -/
theorem head3_0 : kernelRun0_A.sl.HS0_1_4 (F := Ideal) c i arg2 harg2 arg3 harg3 arg4 harg4 arg5 harg5 arg6 harg6 arg7 harg7 x0 x1 x2
    = headPiece arg7 0 inb_S4x144x256_S1x144x256_0_0_0 (rest3 c i arg2 harg2 arg3 harg3 arg4 harg4 arg5 harg5 arg6 harg6 arg7 harg7 x0 x1 x2).1.1
      (sD (harg2.unread x0) (harg3.unread x1) 3 (i 1).val (i 1).isLt 0) (vD (harg4.unread x2) 3 (i 1).val (i 1).isLt 0)
      ((rest3 c i arg2 harg2 arg3 harg3 arg4 harg4 arg5 harg5 arg6 harg6 arg7 harg7 x0 x1 x2).2 ++
        ((loop3 c i arg2 harg2 arg3 harg3 arg4 harg4 arg5 harg5 arg6 harg6 arg7 harg7 x0 x1 x2 (k0_t7_loop i).trips).2 ++ ⟨Rect.unit (s := S4x144x256) ![0, 0, 0] S4x144x256.size inb_S4x144x256_S4x144x256_0_0_0, k0_pay202 (F := Ideal) kernelRun0_A.sl.cst_332⟩ :: kernelRun0_A.sl.HS0_4_2 (F := Ideal) c i arg2 harg2 arg3 harg3 arg4 harg4 arg5 harg5 arg6 harg6 arg7 harg7 x0 x1 x2)) := by
  unfold kernelRun0_A.sl.HS0_1_4 kernelRun0_A.sl.r_46 kernelRun0_A.sl.r_50 kernelRun0_A.sl.v821
  rfl

/-- The stores after head 1 of query tile 3 are those of the tile's state. -/
theorem head3_1 : kernelRun0_A.sl.HS0_2_3 (F := Ideal) c i arg2 harg2 arg3 harg3 arg4 harg4 arg5 harg5 arg6 harg6 arg7 harg7 x0 x1 x2
    = headPiece arg7 1 inb_S4x144x256_S1x144x256_1_0_0 (rest3 c i arg2 harg2 arg3 harg3 arg4 harg4 arg5 harg5 arg6 harg6 arg7 harg7 x0 x1 x2).1.2.1
      (sD (harg2.unread x0) (harg3.unread x1) 3 (i 1).val (i 1).isLt 1) (vD (harg4.unread x2) 3 (i 1).val (i 1).isLt 1)
      (kernelRun0_A.sl.HS0_1_4 (F := Ideal) c i arg2 harg2 arg3 harg3 arg4 harg4 arg5 harg5 arg6 harg6 arg7 harg7 x0 x1 x2) := by
  unfold kernelRun0_A.sl.HS0_2_3 kernelRun0_A.sl.r_47 kernelRun0_A.sl.r_56 kernelRun0_A.sl.r_51 kernelRun0_A.sl.v850
  rfl

/-- The stores after head 2 of query tile 3 are those of the tile's state. -/
theorem head3_2 : kernelRun0_A.sl.HS0_3_3 (F := Ideal) c i arg2 harg2 arg3 harg3 arg4 harg4 arg5 harg5 arg6 harg6 arg7 harg7 x0 x1 x2
    = headPiece arg7 2 inb_S4x144x256_S1x144x256_2_0_0 (rest3 c i arg2 harg2 arg3 harg3 arg4 harg4 arg5 harg5 arg6 harg6 arg7 harg7 x0 x1 x2).1.2.2.1
      (sD (harg2.unread x0) (harg3.unread x1) 3 (i 1).val (i 1).isLt 2) (vD (harg4.unread x2) 3 (i 1).val (i 1).isLt 2)
      (kernelRun0_A.sl.HS0_2_3 (F := Ideal) c i arg2 harg2 arg3 harg3 arg4 harg4 arg5 harg5 arg6 harg6 arg7 harg7 x0 x1 x2) := by
  unfold kernelRun0_A.sl.HS0_3_3 kernelRun0_A.sl.r_57 kernelRun0_A.sl.r_58 kernelRun0_A.sl.r_59 kernelRun0_A.sl.r_48 kernelRun0_A.sl.r_54 kernelRun0_A.sl.v879
  rfl

/-- The stores after head 3 of query tile 3 are those of the tile's state. -/
theorem head3_3 : kernelRun0_A.sl.HS0_4_3 (F := Ideal) c i arg2 harg2 arg3 harg3 arg4 harg4 arg5 harg5 arg6 harg6 arg7 harg7 x0 x1 x2
    = headPiece arg7 3 inb_S4x144x256_S1x144x256_3_0_0 (rest3 c i arg2 harg2 arg3 harg3 arg4 harg4 arg5 harg5 arg6 harg6 arg7 harg7 x0 x1 x2).1.2.2.2
      (sD (harg2.unread x0) (harg3.unread x1) 3 (i 1).val (i 1).isLt 3) (vD (harg4.unread x2) 3 (i 1).val (i 1).isLt 3)
      (kernelRun0_A.sl.HS0_3_3 (F := Ideal) c i arg2 harg2 arg3 harg3 arg4 harg4 arg5 harg5 arg6 harg6 arg7 harg7 x0 x1 x2) := by
  unfold kernelRun0_A.sl.HS0_4_3 kernelRun0_A.sl.r_49 kernelRun0_A.sl.r_55 kernelRun0_A.sl.v908
  rfl

/-- The accumulator after tile 3. -/
theorem acc3 (h : Fin 4) (r : Fin 144) (q : Fin 256) :
    rd arg7 (arg7.view.writes (Elt Ideal) arg7.view.junk (kernelRun0_A.sl.HS0_4_3 (F := Ideal) c i arg2 harg2 arg3 harg3 arg4 harg4 arg5 harg5 arg6 harg6 arg7 harg7 x0 x1 x2)) h r q
      = wsum (Sc x0 x1 3 (256 * (4 * (i 1).val + 3)) h q) (Vv x2 h r) (256 * (4 * (i 1).val + 3) + 256) := by
  have hb : (i 1).val < 2 := (i 1).isLt
  have ht := trips3 i
  rw [head3_3, head3_2, head3_1, head3_0]
  exact tile_acc (x0 := x0) (x1 := x1) (x2 := x2) (harg2.read_unread x0) (harg3.read_unread x1) (harg4.read_unread x2) (i 1).val hb 3 _ ht
    (loop3 c i arg2 harg2 arg3 harg3 arg4 harg4 arg5 harg5 arg6 harg6 arg7 harg7 x0 x1 x2) _ _ _ _ (absent rfl) (fun _ => Ideal.ofBits_zero_f32) rfl
    (fun k hk => (st_k0_t7_succ (F := Ideal) Variants.none c none i arg2 harg2 arg3 harg3 arg4 harg4 arg5 harg5 arg6 harg6 arg7 harg7 k0_pay114 (kernelRun0_A.sl.v758 i) kernelRun0_A.sl.cst_332 (harg2.unread x0) (harg3.unread x1) (harg4.unread x2) _ _ ⟨k, hk⟩).trans
      (congrArg (fun e => (e.1, e.2 ++ _)) (trip3 c i arg2 harg2 arg3 harg3 arg4 harg4 arg5 harg5 arg6 harg6 arg7 harg7 x0 x1 x2 ⟨k, hk⟩ (by omega) _ _))) _ (rest3_eq c i arg2 harg2 arg3 harg3 arg4 harg4 arg5 harg5 arg6 harg6 arg7 harg7 x0 x1 x2) h r q

end Cert.Att

end
-- ==== Proof.Out.lean ====
/- What a grid step of the attention kernel stores: sixteen blocks, one per query tile and head, each the quotient of the
   accumulator's weighted values by its weights, normalised by its own mean square and multiplied by the gain. -/
module

public import proofs.«01_k».proof.Proof.Tiles

@[expose] public section

set_option maxRecDepth 8192

noncomputable section

namespace Cert.Att

open Cert.KernelIdeal Cert.KernelIdeal.Gen Idealize.ShloMosaic Idealize.ShloMosaic.TcCoe

/-- A head's attention output normalised: quotient by the weights' sum, mean square, gain. -/
def normed (o : Fin 128 → EReal) (g : EReal) (r : Fin 128) : EReal :=
  o r * Ideal.rsqrt ((∑ x, o x * o x) * Ideal.ofBits .f32 0x3C000000#32 + Ideal.ofBits .f32 0x358637BD#32) * g

/-- One head's output: weighted values over the sum of weights, normalised by root mean square and scaled by the gain. -/
theorem pay138_apply (a : Vec Ideal S1x144x256 .f32) (g : Vec Ideal S128x1 .f32) (c : Fin 256) (r : Fin 128) :
    k0_pay138 (F := Ideal) a g (ix2 c r)
      = normed (fun x => Ideal.div (a (ix3 0 ⟨x.val, by omega⟩ c)) (a (ix3 0 128 c))) (g (ix2 r 0)) r := by
  unfold k0_pay138 normed
  pointwise

/-- A head's accumulator lies inside the accumulator buffer. -/
theorem inbA (h : Fin 4) : ∀ a, (![h.val, 0, 0] : Fin 3 → ℕ) a + S1x144x256.size a ≤ S4x144x256.size a := by
  intro a
  match a with
  | ⟨0, _⟩ => show h.val + 1 ≤ 4; omega
  | ⟨1, _⟩ => exact le_refl 144
  | ⟨2, _⟩ => exact le_refl 256

/-- A head's gain lies inside the gain block. -/
theorem inbG (h : Fin 4) : ∀ a, (![128 * h.val, 0] : Fin 2 → ℕ) a + S128x1.size a ≤ S512x1.size a := by
  intro a
  match a with
  | ⟨0, _⟩ => show 128 * h.val + 128 ≤ 512; omega
  | ⟨1, _⟩ => exact le_refl 1

/-- Each output tile lies inside the output block. -/
theorem inbO (p : Fin 4 × Fin 4) : ∀ a, (![256 * p.1.val, 128 * p.2.val] : Fin 2 → ℕ) a + S256x128.size a ≤ S1024x512.size a := by
  intro a
  match a with
  | ⟨0, _⟩ => show 256 * p.1.val + 256 ≤ 1024; omega
  | ⟨1, _⟩ => show 128 * p.2.val + 128 ≤ 512; omega

/-- Head `h`'s accumulator after the stores `L`. -/
abbrev accOf (arg7 : Memref sig .tc .vmem S4x144x256 .f32) (L : List (View.Piece (Elt Ideal) S4x144x256 .f32)) (h : Fin 4) : Vec Ideal S1x144x256 .f32 :=
  arg7.view.readCov L (Rect.unit (s := S4x144x256) ![h.val, 0, 0] S1x144x256.size (inbA h)).toLoadRect

/-- Head `h`'s gain. -/
abbrev gainOf {arg5 : Memref sig .tc .vmem S512x1 .f32} (X5 : BufTy.Contents (Elt Ideal) arg5.view.ty) (h : Fin 4) : Vec Ideal S128x1 .f32 :=
  View.readAt (Elt Ideal) arg5.view (Rect.unit (s := S512x1) ![128 * h.val, 0] S128x1.size (inbG h)).toLoadRect X5

/-- The block of tile `p.1` and head `p.2`. -/
def blockOf (w : Fin 4 × Fin 4 → FVec Ideal S256x128 .bf16) (p : Fin 4 × Fin 4) : View.Piece (Elt Ideal) S1024x512 .bf16 :=
  ⟨Rect.unit (s := S1024x512) ![256 * p.1.val, 128 * p.2.val] S256x128.size (inbO p), w p⟩

/-- The blocks in the order they are found: the last stored first. -/
def order : List (Fin 4 × Fin 4) :=
  [(3, 3), (3, 2), (3, 1), (3, 0), (2, 3), (2, 2), (2, 1), (2, 0), (1, 3), (1, 2), (1, 1), (1, 0), (0, 3), (0, 2), (0, 1), (0, 0)]

/-- Disjoint blocks are read back, whichever was stored last. -/
theorem read_blocks {κ : Kind} {sp : Space} (V : View sig κ sp S1024x512 .bf16) (f : BufTy.Contents (Elt Ideal) V.ty)
    (w : Fin 4 × Fin 4 → FVec Ideal S256x128 .bf16) (t h : Fin 4) (q : Fin 256) (r : Fin 128) (L : List (Fin 4 × Fin 4)) (hL : (t, h) ∈ L) :
    V.read (Elt Ideal) (V.writes (Elt Ideal) f (L.map (blockOf w))) (ix2 ⟨256 * t.val + q.val, by omega⟩ ⟨128 * h.val + r.val, by omega⟩) = w (t, h) (ix2 q r) := by
  induction L with
  | nil => simp at hL
  | cons p L ih =>
    rw [List.map_cons]
    by_cases hp : p = (t, h)
    · subst hp
      refine View.read_writes_cons_unit_of_mem (off' := ![256 * t.val, 128 * h.val]) V f (inbO (t, h)) (w (t, h)) _ _ (ix2 q r) rfl fun a => ?_
      match a with
      | ⟨0, _⟩ => rfl
      | ⟨1, _⟩ => rfl
    · have hne : p.1.val ≠ t.val ∨ p.2.val ≠ h.val := by
        by_contra hcon
        push Not at hcon
        exact hp (Prod.ext (Fin.ext hcon.1) (Fin.ext hcon.2))
      have tail := ih ((List.mem_cons.mp hL).resolve_left fun e => hp e.symm)
      rcases hne with h0 | h1
      · refine (View.read_writes_cons_unit_of_not_mem (off' := ![256 * p.1.val, 128 * p.2.val]) V f (inbO p) (w p) _ _ rfl ⟨0, by decide⟩ ?_).trans tail
        show 256 * t.val + q.val < 256 * p.1.val ∨ 256 * p.1.val + 256 ≤ 256 * t.val + q.val
        omega
      · refine (View.read_writes_cons_unit_of_not_mem (off' := ![256 * p.1.val, 128 * p.2.val]) V f (inbO p) (w p) _ _ rfl ⟨1, by decide⟩ ?_).trans tail
        show 128 * h.val + r.val < 128 * p.2.val ∨ 128 * p.2.val + 128 ≤ 128 * h.val + r.val
        omega

variable (c : Dev nD) (i : grid0.Coords) (arg2 : Memref sig .tc .vmem S1024x1024 .bf16) (harg2 : arg2.IsWhole)
  (arg3 : Memref sig .tc .vmem S2048x1024 .bf16) (harg3 : arg3.IsWhole) (arg4 : Memref sig .tc .vmem S4096x256 .bf16) (harg4 : arg4.IsWhole)
  (arg5 : Memref sig .tc .vmem S512x1 .f32) (harg5 : arg5.IsWhole) (arg6 : Memref sig .tc .vmem S1024x512 .bf16) (harg6 : arg6.IsWhole)
  (arg7 : Memref sig .tc .vmem S4x144x256 .f32) (harg7 : arg7.IsWhole)
  (x0 : Vec Ideal S1024x1024 .bf16) (x1 : Vec Ideal S2048x1024 .bf16) (x2 : Vec Ideal S4096x256 .bf16) (x3 : Vec Ideal S512x1 .f32)

/-- The accumulator's stores up to the end of each tile. -/
def upTo : Fin 4 → List (View.Piece (Elt Ideal) S4x144x256 .f32) :=
  ![kernelRun0_A.sl.HS0_4 (F := Ideal) c i arg2 harg2 arg3 harg3 arg4 harg4 arg5 harg5 arg6 harg6 arg7 harg7 x0 x1 x2,
    kernelRun0_A.sl.HS0_4_1 (F := Ideal) c i arg2 harg2 arg3 harg3 arg4 harg4 arg5 harg5 arg6 harg6 arg7 harg7 x0 x1 x2,
    kernelRun0_A.sl.HS0_4_2 (F := Ideal) c i arg2 harg2 arg3 harg3 arg4 harg4 arg5 harg5 arg6 harg6 arg7 harg7 x0 x1 x2,
    kernelRun0_A.sl.HS0_4_3 (F := Ideal) c i arg2 harg2 arg3 harg3 arg4 harg4 arg5 harg5 arg6 harg6 arg7 harg7 x0 x1 x2]

/-- The accumulator of a tile and head, read at an entry. -/
theorem upTo_read (t h : Fin 4) (r : Fin 144) (q : Fin 256) :
    rd arg7 (arg7.view.writes (Elt Ideal) arg7.view.junk (upTo c i arg2 harg2 arg3 harg3 arg4 harg4 arg5 harg5 arg6 harg6 arg7 harg7 x0 x1 x2 t)) h r q
      = wsum (Sc x0 x1 t (256 * (4 * (i 1).val + t.val)) h q) (Vv x2 h r) (256 * (4 * (i 1).val + t.val) + 256) := by
  match t with
  | 0 => exact acc0 c i arg2 harg2 arg3 harg3 arg4 harg4 arg5 harg5 arg6 harg6 arg7 harg7 x0 x1 x2 h r q
  | 1 => exact acc1 c i arg2 harg2 arg3 harg3 arg4 harg4 arg5 harg5 arg6 harg6 arg7 harg7 x0 x1 x2 h r q
  | 2 => exact acc2 c i arg2 harg2 arg3 harg3 arg4 harg4 arg5 harg5 arg6 harg6 arg7 harg7 x0 x1 x2 h r q
  | 3 => exact acc3 c i arg2 harg2 arg3 harg3 arg4 harg4 arg5 harg5 arg6 harg6 arg7 harg7 x0 x1 x2 h r q

/-- The result's stores are the sixteen blocks. -/
theorem pieces_eq : (kernelRun0_A (F := Ideal) c i arg2 harg2 arg3 harg3 arg4 harg4 arg5 harg5 arg6 harg6 arg7 harg7 x0 x1 x2 x3).1
    = order.map (blockOf fun p => k0_pay138 (F := Ideal)
        (accOf arg7 (upTo c i arg2 harg2 arg3 harg3 arg4 harg4 arg5 harg5 arg6 harg6 arg7 harg7 x0 x1 x2 p.1) p.2) (gainOf (harg5.unread x3) p.2)) := by
  unfold kernelRun0_A
  dsimp only [order, List.map_cons, List.map_nil, blockOf]
  rfl

/-- The result of a grid step at a row of a tile and a column of a head. -/
theorem out_apply (t h : Fin 4) (q : Fin 256) (r : Fin 128) :
    out0_A_4 (F := Ideal) c i arg2 harg2 arg3 harg3 arg4 harg4 arg5 harg5 arg6 harg6 arg7 harg7 x0 x1 x2 x3
        (ix2 ⟨256 * t.val + q.val, by omega⟩ ⟨128 * h.val + r.val, by omega⟩)
      = normed (fun x => Ideal.div
          (wsum (Sc x0 x1 t (256 * (4 * (i 1).val + t.val)) h q) (Vv x2 h ⟨x.val, by omega⟩) (256 * (4 * (i 1).val + t.val) + 256))
          (wsum (Sc x0 x1 t (256 * (4 * (i 1).val + t.val)) h q) (fun _ => 1) (256 * (4 * (i 1).val + t.val) + 256)))
        (x3 (ix2 ⟨128 * h.val + r.val, by omega⟩ 0)) r := by
  unfold out0_A_4
  rw [pieces_eq, read_blocks _ _ _ t h q r order (by revert t h; decide), pay138_apply]
  have ea (x : Fin 144) := (readAt_head arg7 (arg7.view.writes (Elt Ideal) arg7.view.junk (upTo c i arg2 harg2 arg3 harg3 arg4 harg4 arg5 harg5 arg6 harg6 arg7 harg7 x0 x1 x2 t))
    h.val h.isLt (inbA h) x q).trans (upTo_read c i arg2 harg2 arg3 harg3 arg4 harg4 arg5 harg5 arg6 harg6 arg7 harg7 x0 x1 x2 t h x q)
  have e1 : Vv x2 h 128 = fun _ => 1 := funext fun n => Vv_one h 128 (by decide) n
  have eg : gainOf (harg5.unread x3) h (ix2 r 0) = x3 (ix2 ⟨128 * h.val + r.val, by omega⟩ 0) := by
    unfold gainOf
    rw [View.readAt_eq_ld]
    show arg5.view.read (Elt Ideal) (harg5.unread x3) _ = _
    rw [harg5.read_unread]
    refine congrArg x3 (funext fun a => Fin.ext ?_)
    match a with
    | ⟨0, _⟩ => show 128 * h.val + 1 * r.val = 128 * h.val + r.val; omega
    | ⟨1, _⟩ => rfl
  rw [eg]
  refine congrArg (fun o => normed o _ r) (funext fun x => ?_)
  rw [← e1]
  exact congrArg₂ Ideal.div (ea ⟨x.val, by omega⟩) (ea 128)

end Cert.Att

end
-- ==== Proof.Ref.lean ====
/- The reference's result read at an index: the masked scores, their softmax, the weighted values, the norm. -/
module

public import proofs.«01_k».proof.Proof.Gen.ReferenceIdeal.Read
public import proofs.«01_k».proof.Proof.Math
public import Idealize.ShloMosaic.Lib.Pointwise

@[expose] public section

noncomputable section

namespace Cert.Att

open Cert.ReferenceIdeal Cert.ReferenceIdeal.Gen Cert.ReferenceIdeal.Read Idealize.ShloMosaic Idealize.ShloMosaic.TcCoe Idealize.ShloMosaic.Tactic

/-- A host maximum over the last of four axes, at an index. -/
theorem hostMax {n0 n1 n2 n3 : ℕ} {u : Shape} (hr : (⟨4, ![n0, n1, n2, n3]⟩ : Shape).ReducesTo [3] ⟨3, ![n0, n1, n2]⟩) (hu : 0 < u.numel)
    (w : FVec Ideal ⟨4, ![n0, n1, n2, n3]⟩ .f32) (init : FVec Ideal u .f32) (a : Fin n0) (b : Fin n1) (c : Fin n2) :
    Host.reduce FloatOps.maximumf w init hr hu (ix3 a b c)
      = Finset.fold max (init (Shape.Idx.first hu)) (fun x => w (ix4 a b c x)) Finset.univ := by
  rw [Host.reduce_eq_fold, Shape.ReducesTo.fold_fiber_r4_a3]
  rfl

/-- The literal of an empty maximum is minus infinity. -/
theorem inf_bits : Ideal.ofBits .f32 0xFF800000#32 = ⊥ := by
  simp [Ideal.ofBits, Ideal.ieee]

/-- The reference's masked score: the product of a query and a key times the scale where the key is not after the query. -/
theorem ref_score (x0 x1 : FVec Ideal S16x4x2048x192 .f32) (b : Fin 16) (h : Fin 4) (s n : Fin 2048) :
    val_main_v10 (F := Ideal) x0 x1 (ix4 b h s n)
      = if n.val ≤ s.val then (∑ d, x0 (ix4 b h s d) * x1 (ix4 b h n d)) * Ideal.ofBits .f32 0x3D93CD3A#32 else ⊥ := by
  unfold val_main_v10 val_main_call0_v1 val_main_v2 val_main_call0_v2 val_main_v9 val_main_v1 val_main_v0 val_main_call0_v0 val_main_v7 val_main_v8 val_main_v4 val_main_v6 val_main_v3 val_main_v5 val_main_cst val_main_cst_0
  pointwise
  have e : IntOp.cmpi .sle (BitVec.ofNat 32 n.val) (BitVec.ofNat 32 s.val) = BitVec.ofBool (decide (n.val ≤ s.val)) := by
    show BitVec.ofBool ((BitVec.ofNat 32 n.val).sle (BitVec.ofNat 32 s.val)) = _
    congr 1
    have t : ∀ k : ℕ, k < 2048 → (BitVec.ofNat 32 k).toInt = k := fun k hk => by
      have e : (BitVec.ofNat 32 k).toNat = k := by rw [BitVec.toNat_ofNat]; exact Nat.mod_eq_of_lt (by omega)
      rw [BitVec.toInt_eq_toNat_of_lt (by rw [e]; omega), e]
    rw [BitVec.sle_eq_decide, t _ n.isLt, t _ s.isLt]
    simp
  rw [e]
  by_cases hn : n.val ≤ s.val
  · rw [if_pos hn, decide_eq_true hn]
    rfl
  · rw [if_neg hn, decide_eq_false hn]
    exact inf_bits

/-- The largest masked score of a query. -/
theorem ref_max (x0 x1 : FVec Ideal S16x4x2048x192 .f32) (b : Fin 16) (h : Fin 4) (s : Fin 2048) :
    val_main_v13 (F := Ideal) x0 x1 (ix3 b h s)
      = Finset.fold max ⊥ (fun x => val_main_v10 (F := Ideal) x0 x1 (ix4 b h s x)) Finset.univ := by
  rw [val_main_v13_apply, val_main_v12_apply, val_main_cst_2_apply]
  unfold val_main_v11
  rw [hostMax, val_main_cst_1_apply]
  generalize val_main_v10 (F := Ideal) x0 x1 = w
  show max (Ideal.ofBits .f32 0xFF800000#32) (Finset.fold max (Ideal.ofBits .f32 0xFF800000#32) _ _) = _
  rw [inf_bits]
  exact max_eq_right bot_le

/-- The reference's weight of a key. -/
theorem ref_weight (x0 x1 : FVec Ideal S16x4x2048x192 .f32) (b : Fin 16) (h : Fin 4) (s n : Fin 2048) :
    val_main_v21 (F := Ideal) x0 x1 (ix4 b h s n)
      = Ideal.div (Ideal.exp (val_main_v10 (F := Ideal) x0 x1 (ix4 b h s n) - val_main_v13 (F := Ideal) x0 x1 (ix3 b h s)))
          (∑ x, Ideal.exp (val_main_v10 (F := Ideal) x0 x1 (ix4 b h s x) - val_main_v13 (F := Ideal) x0 x1 (ix3 b h s))) := by
  unfold val_main_v21 val_main_v20 val_main_v19 val_main_v18 val_main_v17 val_main_v16 val_main_v15 val_main_v14 val_main_cst_3
  generalize val_main_v10 (F := Ideal) x0 x1 = w
  generalize val_main_v13 (F := Ideal) x0 x1 = u
  pointwise

/-- The weighted values. -/
theorem ref_mix (x0 x1 : FVec Ideal S16x4x2048x192 .f32) (x2 : FVec Ideal S16x4x2048x128 .f32) (b : Fin 16) (h : Fin 4) (s : Fin 2048)
    (r : Fin 128) : val_main_v22 (F := Ideal) x0 x1 x2 (ix4 b h s r)
      = ∑ x, val_main_v21 (F := Ideal) x0 x1 (ix4 b h s x) * x2 (ix4 b h x r) := by
  unfold val_main_v22
  generalize val_main_v21 (F := Ideal) x0 x1 = w
  pointwise

/-- The result: the weighted values normalised by their mean square, times the gain. -/
theorem ref_out (x0 x1 : FVec Ideal S16x4x2048x192 .f32) (x2 : FVec Ideal S16x4x2048x128 .f32) (x3 : FVec Ideal S4x128 .f32) (b : Fin 16)
    (h : Fin 4) (s : Fin 2048) (r : Fin 128) :
    val_main_v38 (F := Ideal) x0 x1 x2 x3 (ix2 ⟨2048 * b.val + s.val, by omega⟩ ⟨128 * h.val + r.val, by omega⟩)
      = val_main_v22 (F := Ideal) x0 x1 x2 (ix4 b h s r)
          * Ideal.rsqrt (Ideal.div (∑ x, val_main_v22 (F := Ideal) x0 x1 x2 (ix4 b h s x) * val_main_v22 (F := Ideal) x0 x1 x2 (ix4 b h s x))
              (Ideal.ofBits .f32 0x43000000#32) + Ideal.ofBits .f32 0x358637BD#32)
          * x3 (ix2 h r) := by
  unfold val_main_v38 val_main_v37 val_main_v36 val_main_v35 val_main_v34 val_main_v33 val_main_v32 val_main_v31 val_main_v30 val_main_v29 val_main_v28 val_main_v27 val_main_v26 val_main_v25 val_main_v24 val_main_v23 val_main_cst_4 val_main_cst_5 val_main_cst_6
  generalize val_main_v22 (F := Ideal) x0 x1 x2 = w
  pointwise

end Cert.Att
-- ==== Proof.Join.lean ====
/- The attention kernel's result is the reference's: on finite queries and keys a tile's scores are the reference's over the
   logarithm of two, powers of two become exponentials, and the two norms agree. -/
module

public import proofs.«01_k».proof.Proof.Host
public import proofs.«01_k».proof.Proof.Out
public import proofs.«01_k».proof.Proof.Ref
public import proofs.«01_k».proof.Proof.Gen.Pre_finite_qk
public import Idealize.ShloMosaic.Lib.ReduceAll

@[expose] public section

set_option maxRecDepth 16384

noncomputable section

namespace Cert.Att

open Cert.KernelIdeal Cert.KernelIdeal.Gen Idealize.ShloMosaic Idealize.ShloMosaic.TcCoe Idealize.ShloMosaic.Tactic

/-- An extended real below infinity in absolute value is a real number. -/
theorem real_of_abs_lt {x : EReal} (h : Ideal.cmp .olt (max x (-x)) ⊤ = 1#1) : ((x.toReal : ℝ) : EReal) = x := by
  have h' : max x (-x) < ⊤ := by
    by_contra hn
    rw [show Ideal.cmp .olt (max x (-x)) ⊤ = BitVec.ofBool (decide (max x (-x) < ⊤)) from rfl, decide_eq_false hn] at h
    exact absurd h (by decide)
  refine EReal.coe_toReal (fun e => ?_) (fun e => ?_)
  · rw [e] at h'; simp at h'
  · rw [e] at h'; simp at h'

/-- Finite queries and keys are real at every index. -/
theorem finite_real (q k : FVec Ideal S16x4x2048x192 .f32) (v : FVec Ideal S16x4x2048x128 .f32) (g : FVec Ideal S4x128 .f32)
    (h : Cert.Pre_finite_qk.fn (F := Ideal) q k v g = fun _ => 1#1) :
    (∀ i, (((q i : EReal).toReal : ℝ) : EReal) = q i) ∧ ∀ i, (((k i : EReal).toReal : ℝ) : EReal) = k i := by
  have e := congrFun h ix0
  unfold Cert.Pre_finite_qk.fn at e
  obtain ⟨e1, e2⟩ := IntOp.andi_eq_one.1 e
  haveI : Subsingleton Cert.Pre_finite_qk.S_.Idx := ⟨fun a b => funext fun x => x.elim0⟩
  have inf : Ideal.ofBits .f32 0x7F800000#32 = ⊤ := by simp [Ideal.ofBits, Ideal.ieee]
  refine ⟨fun i => ?_, fun i => ?_⟩
  · have := Host.reduce_andi_all _ _ _ _ _ e1 i
    refine real_of_abs_lt ?_
    rw [← inf]
    exact this
  · have := Host.reduce_andi_all _ _ _ _ _ e2 i
    refine real_of_abs_lt ?_
    rw [← inf]
    exact this

/-- Attention weights of a query at position `s` with scores `T`, applied to values. -/
def attn (T : ℕ → ℝ) (s : ℕ) (v : ℕ → EReal) : EReal :=
  ∑ n ∈ Finset.range 2048, Ideal.div (Ideal.exp (masked T s n - top (masked T s) 2048))
    (∑ k ∈ Finset.range 2048, Ideal.exp (masked T s k - top (masked T s) 2048)) * v n

/-- Weighted sums of values equal on the keys seen are equal. -/
theorem wsum_congr {s v v' : ℕ → EReal} {N : ℕ} (h : ∀ n, n < N → v n = v' n) : wsum s v N = wsum s v' N :=
  Finset.sum_congr rfl fun n hn => by rw [h n (Finset.mem_range.mp hn)]

section Kernel

variable (m : (ℓ : Loc nD τ sig) → Buf (Elt Ideal) ℓ) (c : Dev nD)
variable (q k : FVec Ideal S16x4x2048x192 .f32) (qr kr : S16x4x2048x192.Idx → ℝ)

/-- A tile's score is the reference's over the logarithm of two. -/
theorem score_eq (hq : m ((c : Thread nD τ).loc main_arg0) = q) (hk : m ((c : Thread nD τ).loc main_arg1) = k)
    (hqr : ∀ i, ((qr i : ℝ) : EReal) = q i) (hkr : ∀ i, ((kr i : ℝ) : EReal) = k i) (T : Fin cfg0.N) (t h : Fin 4) (a : Fin 256) :
    Sc (iblk m c 0 T) (iblk m c 1 T) t (256 * (4 * (T.val % 2) + t.val)) h a
      = masked (fun n => score qr kr ⟨T.val / 2, by have := lt32 T; omega⟩ h ⟨1024 * (T.val % 2) + (256 * t.val + a.val), by omega⟩ n
          * (1 / Real.log 2)) (1024 * (T.val % 2) + (256 * t.val + a.val)) := by
  funext n
  unfold Sc masked
  have hp : 256 * (4 * (T.val % 2) + t.val) + a.val = 1024 * (T.val % 2) + (256 * t.val + a.val) := by omega
  rw [hp]
  by_cases hn : n ≤ 1024 * (T.val % 2) + (256 * t.val + a.val)
  · rw [if_pos hn, if_pos hn]
    simp only [key_read, query_read m c q hq T ⟨256 * t.val + a.val, by omega⟩]
    rw [lane_sum, hk]
    simp only [← hqr, ← hkr, scale_bits, ← EReal.coe_mul]
    rw [← coe_sum]
    refine congrArg _ ?_
    unfold score
    rw [Finset.sum_mul, Finset.sum_mul]
    exact Finset.sum_congr rfl fun d _ => by ring
  · rw [if_neg hn, if_neg hn]

/-- A grid step's result: normalised attention. -/
theorem step_out (hq : m ((c : Thread nD τ).loc main_arg0) = q) (hk : m ((c : Thread nD τ).loc main_arg1) = k)
    (hqr : ∀ i, ((qr i : ℝ) : EReal) = q i) (hkr : ∀ i, ((kr i : ℝ) : EReal) = k i) (v : FVec Ideal S16x4x2048x128 .f32)
    (hv : m ((c : Thread nD τ).loc main_arg2) = v) (g : FVec Ideal S4x128 .f32) (hg : m ((c : Thread nD τ).loc main_arg3) = g)
    (T : Fin cfg0.N) (t h : Fin 4) (a : Fin 256) (r : Fin 128) :
    out0_A_4 (F := Ideal) c (grid0.coords T) (ms0_0 T) (hs0_0 T) (ms0_1 T) (hs0_1 T) (ms0_2 T) (hs0_2 T) (ms0_3 T) (hs0_3 T) (ms0_4 T) (hs0_4 T)
        scM0_0 (Memref.isWhole_whole _) (iblk m c 0 T) (iblk m c 1 T) (iblk m c 2 T) (iblk m c 3 T)
        (ix2 ⟨256 * t.val + a.val, by omega⟩ ⟨128 * h.val + r.val, by omega⟩)
      = normed (fun x => attn (score qr kr ⟨T.val / 2, by have := lt32 T; omega⟩ h ⟨1024 * (T.val % 2) + (256 * t.val + a.val), by omega⟩)
          (1024 * (T.val % 2) + (256 * t.val + a.val))
          (fun n => v (ix4 ⟨T.val / 2, by have := lt32 T; omega⟩ h (Fin.ofNat 2048 n) x))) (g (ix2 h r)) r := by
  rw [out_apply, (index_eq T).2.2.2.2.2, score_eq m c q k qr kr hq hk hqr hkr, gain_read m c T h r, hg]
  refine congrArg (fun o => normed o _ r) (funext fun x => ?_)
  rw [wsum_congr (v' := fun n => v (ix4 ⟨T.val / 2, by have := lt32 T; omega⟩ h (Fin.ofNat 2048 n) x)) fun n hn => ?_]
  · exact quotient_eq _ _ _ 2048 (by omega) (by omega) _
  · rw [value_read m c T h ⟨x.val, by omega⟩ x.isLt n (by omega), hv]

end Kernel

/-- The reference's result: normalised attention. -/
theorem ref_eq (q k : FVec Ideal S16x4x2048x192 .f32) (qr kr : S16x4x2048x192.Idx → ℝ) (hqr : ∀ i, ((qr i : ℝ) : EReal) = q i)
    (hkr : ∀ i, ((kr i : ℝ) : EReal) = k i) (v : FVec Ideal S16x4x2048x128 .f32) (g : FVec Ideal S4x128 .f32) (b : Fin 16) (h : Fin 4)
    (s : Fin 2048) (r : Fin 128) :
    Cert.ReferenceIdeal.Read.val_main_v38 (F := Ideal) q k v g (ix2 ⟨2048 * b.val + s.val, by omega⟩ ⟨128 * h.val + r.val, by omega⟩)
      = normed (fun x => attn (score qr kr b h s) s.val (fun n => v (ix4 b h (Fin.ofNat 2048 n) x))) (g (ix2 h r)) r := by
  have e10 : ∀ n : Fin 2048, Cert.ReferenceIdeal.Read.val_main_v10 (F := Ideal) q k (ix4 b h s n) = masked (score qr kr b h s) s.val n.val := fun n => by
    rw [ref_score]
    unfold masked
    refine if_congr Iff.rfl ?_ rfl
    simp only [← hqr, ← hkr, scale_bits, ← EReal.coe_mul]
    rw [← coe_sum, ← EReal.coe_mul]
    refine congrArg _ ?_
    unfold score
    rw [show Fin.ofNat 2048 n.val = n from Fin.ext (Nat.mod_eq_of_lt n.isLt)]
  have e13 : Cert.ReferenceIdeal.Read.val_main_v13 (F := Ideal) q k (ix3 b h s) = top (masked (score qr kr b h s) s.val) 2048 := by
    rw [ref_max]
    simp only [e10]
    have := top_add (masked (score qr kr b h s) s.val) 0 2048
    rw [top_zero, max_eq_right bot_le] at this
    simpa only [Nat.zero_add] using this
  have e22 : ∀ x : Fin 128, Cert.ReferenceIdeal.Read.val_main_v22 (F := Ideal) q k v (ix4 b h s x)
      = attn (score qr kr b h s) s.val (fun n => v (ix4 b h (Fin.ofNat 2048 n) x)) := fun x => by
    rw [ref_mix]
    unfold attn
    rw [Finset.sum_range, Finset.sum_range]
    refine Finset.sum_congr rfl fun n _ => ?_
    rw [ref_weight, e13]
    simp only [e10]
    rw [show Fin.ofNat 2048 n.val = n from Fin.ext (Nat.mod_eq_of_lt n.isLt)]
  have e128 : Ideal.ofBits .f32 0x43000000#32 = ((128 : ℝ) : EReal) := by
    simp [Ideal.ofBits, Ideal.ieee]
    rw [← EReal.coe_mul]
    norm_num
  have e128' : Ideal.ofBits .f32 0x3C000000#32 = ((1 / 128 : ℝ) : EReal) := by
    simp [Ideal.ofBits, Ideal.ieee]
    rw [← EReal.coe_mul]
    norm_num
  rw [ref_out]
  simp only [e22]
  unfold normed
  rw [e128, e128', Ideal.div_coe (by norm_num)]

/-- The kernel's result array is the reference's function of the arguments. -/
theorem result_eq (m : (ℓ : Loc nD τ sig) → Buf (Elt Ideal) ℓ) (c : Dev nD) (q k : FVec Ideal S16x4x2048x192 .f32)
    (v : FVec Ideal S16x4x2048x128 .f32) (g : FVec Ideal S4x128 .f32)
    (hq : m ((c : Thread nD τ).loc main_arg0) = q) (hk : m ((c : Thread nD τ).loc main_arg1) = k)
    (hv : m ((c : Thread nD τ).loc main_arg2) = v) (hg : m ((c : Thread nD τ).loc main_arg3) = g)
    (hp : Cert.Pre_finite_qk.fn (F := Ideal) q k v g = fun _ => 1#1) :
    ((dats m 0 c).arrAt 4 cfg0.N : FVec Ideal S32768x512 .bf16) = Cert.ReferenceIdeal.Read.val_main_v38 (F := Ideal) q k v g := by
  obtain ⟨hqr, hkr⟩ := finite_real q k v g hp
  funext j
  have h0 : (j 0).val < 32768 := (j 0).isLt
  have h1 : (j 1).val < 512 := (j 1).isLt
  have hT : (j 0).val / 1024 < 32 := by omega
  let T : Fin cfg0.N := ⟨(j 0).val / 1024, hT⟩
  let t : Fin 4 := ⟨(j 0).val % 1024 / 256, by omega⟩
  let a : Fin 256 := ⟨(j 0).val % 256, by omega⟩
  let h : Fin 4 := ⟨(j 1).val / 128, by omega⟩
  let r : Fin 128 := ⟨(j 1).val % 128, by omega⟩
  let b : Fin 16 := ⟨(j 0).val / 1024 / 2, by omega⟩
  let s : Fin 2048 := ⟨1024 * ((j 0).val / 1024 % 2) + (256 * t.val + a.val), by omega⟩
  have ej : j = ix2 ⟨2048 * b.val + s.val, by omega⟩ ⟨128 * h.val + r.val, by omega⟩ := by
    funext x
    apply Fin.ext
    match x with
    | ⟨0, _⟩ =>
      show (j 0).val = 2048 * ((j 0).val / 1024 / 2) + (1024 * ((j 0).val / 1024 % 2) + (256 * ((j 0).val % 1024 / 256) + (j 0).val % 256))
      omega
    | ⟨1, _⟩ => show (j 1).val = 128 * ((j 1).val / 128) + (j 1).val % 128; omega
  have hb := congrFun (Cert.KernelIdeal.Value.blocks4 m c T (flush0_4 T))
    (ix2 ⟨256 * t.val + a.val, by omega⟩ ⟨128 * h.val + r.val, by omega⟩)
  rw [Cert.KernelIdeal.Value.flushed4_A] at hb
  have hs := step_out m c q k _ _ hq hk hqr hkr v hv g hg T t h a r
  have hr := ref_eq q k _ _ hqr hkr v g b h s r
  rw [ej]
  refine Eq.trans ?_ (hs.trans hr.symm)
  refine Eq.trans ?_ (hb.trans ?_)
  · rw [View.read_apply]
    show ((dats m 0 c).arrAt 4 cfg0.N : FVec Ideal S32768x512 .bf16) _ = ((dats m 0 c).arrAt 4 cfg0.N : FVec Ideal S32768x512 .bf16) _
    generalize ((dats m 0 c).arrAt 4 cfg0.N : FVec Ideal S32768x512 .bf16) = w
    refine congrArg w (funext fun x => Fin.ext ?_)
    obtain ⟨e0, e1⟩ := (index_eq T).2.2.2.2.1
    match x with
    | ⟨0, _⟩ =>
      show 2048 * b.val + s.val = win0_4.index T 0 * 1024 + 1 * (256 * t.val + a.val)
      rw [e0]
      show 2048 * ((j 0).val / 1024 / 2) + (1024 * ((j 0).val / 1024 % 2) + (256 * ((j 0).val % 1024 / 256) + (j 0).val % 256))
        = (j 0).val / 1024 * 1024 + 1 * (256 * ((j 0).val % 1024 / 256) + (j 0).val % 256)
      omega
    | ⟨1, _⟩ =>
      show 128 * h.val + r.val = win0_4.index T 1 * 512 + 1 * (128 * h.val + r.val)
      rw [e1]
      omega
  · rfl

end Cert.Att
-- ==== Proof.BackMath.lean ====
/- A row through the back call, written once for both sides: the root-mean-square norm, the cross attention of one
   head over the memory, the products with the weights. -/
module

public import Idealize.ShloMosaic.PureOps.Ideal
public import proofs.«01_k».proof.Proof.Math

@[expose] public section

noncomputable section

namespace Cert.Back

open Idealize.ShloMosaic

/-- The norm's small literal. -/
abbrev eps : EReal := Ideal.ofBits .f32 0x358637BD#32

/-- A row divided by its root mean square (`k` is one over the length) and scaled by a gain. -/
def norm {n : ℕ} (k : EReal) (v g : Fin n → EReal) (c : Fin n) : EReal :=
  v c * Ideal.rsqrt ((∑ i, v i * v i) * k + eps) * g c

/-- One over 1024, as the kernel's literal. -/
abbrev k1024 : EReal := Ideal.ofBits .f32 0x3A800000#32

/-- One over 128, as the kernel's literal. -/
abbrev k128 : EReal := Ideal.ofBits .f32 0x3C000000#32

/-- The scale of the scores. -/
abbrev scale : EReal := Ideal.ofBits .f32 0x3DB504F3#32

/-- The largest of 256 scores. -/
def top (s : Fin 256 → EReal) : EReal := Finset.fold max ⊥ s Finset.univ

/-- A memory slot's weight before normalisation. -/
def weight (s : Fin 256 → EReal) (n : Fin 256) : EReal := Ideal.exp (s n - top s)

/-- The kernel's order: the weighted values first, then the quotient. -/
def mix (s v : Fin 256 → EReal) : EReal := Ideal.div (∑ n, weight s n * v n) (∑ n, weight s n)

/-- A head's lane among the 512. -/
abbrev lane (h : Fin 4) (d : Fin 128) : Fin 512 := ⟨128 * h.val + d.val, by omega⟩

/-- The residual row with the output projection of the two mixers added. -/
def mixed (x : Fin 1024 → EReal) (a b : Fin 512 → EReal) (w : Fin 1024 → Fin 1024 → EReal) (c : Fin 1024) : EReal :=
  x c + ∑ k : Fin 512, a k * w ⟨k.val, by omega⟩ c + ∑ k : Fin 512, b k * w ⟨512 + k.val, by omega⟩ c

/-- The query projection of the normalised row. -/
def proj (x g : Fin 1024 → EReal) (w : Fin 1024 → Fin 512 → EReal) (j : Fin 512) : EReal := ∑ c, norm k1024 x g c * w c j

/-- One head's scaled normalised query. -/
def query (q : Fin 512 → EReal) (g : Fin 128 → EReal) (h : Fin 4) (d : Fin 128) : EReal :=
  norm k128 (fun d => q (lane h d)) g d * scale

/-- One head's score of a memory slot. -/
def score (q : Fin 512 → EReal) (g : Fin 128 → EReal) (k : Fin 256 → Fin 512 → EReal) (h : Fin 4) (n : Fin 256) : EReal :=
  ∑ d, query q g h d * k n (lane h d)

/-- The heads' outputs side by side. -/
def heads (q : Fin 512 → EReal) (g : Fin 128 → EReal) (k v : Fin 256 → Fin 512 → EReal) (j : Fin 512) : EReal :=
  mix (score q g k ⟨j.val / 128, by omega⟩) (fun n => v n j)

/-- The row after the cross attention. -/
def crossed (x : Fin 1024 → EReal) (o : Fin 512 → EReal) (w : Fin 512 → Fin 1024 → EReal) (c : Fin 1024) : EReal :=
  x c + ∑ j, o j * w j c

/-- The squared positive part of a hidden unit. -/
def unit {n : ℕ} (x g : Fin 1024 → EReal) (w : Fin 1024 → Fin n → EReal) (j : Fin n) : EReal :=
  max (∑ c, norm k1024 x g c * w c j) 0 * max (∑ c, norm k1024 x g c * w c j) 0

/-- The row after the feed-forward part. -/
def fed (x g : Fin 1024 → EReal) (w1 : Fin 1024 → Fin 4096 → EReal) (w2 : Fin 4096 → Fin 1024 → EReal) (c : Fin 1024) : EReal :=
  x c + ∑ j, unit x g w1 j * w2 j c

/-! ## The literals -/

/-- Dividing by 1024 is multiplying by the literal. -/
theorem div1024 (x : EReal) : Ideal.div x (Ideal.ofBits .f32 0x44800000#32) = x * k1024 := by
  have e : Ideal.ofBits .f32 0x44800000#32 = ((1024 : ℝ) : EReal) := by
    simp [Ideal.ofBits, Ideal.ieee]; rw [← EReal.coe_mul]; norm_num
  have e' : k1024 = ((1024⁻¹ : ℝ) : EReal) := by
    simp [Ideal.ofBits, Ideal.ieee]; rw [← EReal.coe_mul]; norm_num
  rw [e, e', Ideal.div_coe (by norm_num)]
  norm_num

/-- Dividing by 128 is multiplying by the literal. -/
theorem div128 (x : EReal) : Ideal.div x (Ideal.ofBits .f32 0x43000000#32) = x * k128 := by
  have e : Ideal.ofBits .f32 0x43000000#32 = ((128 : ℝ) : EReal) := by
    simp [Ideal.ofBits, Ideal.ieee]; rw [← EReal.coe_mul]; norm_num
  have e' : k128 = ((128⁻¹ : ℝ) : EReal) := by
    simp [Ideal.ofBits, Ideal.ieee]; rw [← EReal.coe_mul]; norm_num
  rw [e, e', Ideal.div_coe (by norm_num)]
  norm_num

end Cert.Back
-- ==== Proof.BackBody.lean ====
/- The back call's body read entry by entry. -/
module

public import proofs.«01_k».proof.Proof.Gen.Kernel2Ideal.Frame
public import proofs.«01_k».proof.Proof.BackMath
public import Idealize.ShloMosaic.Lib.Pointwise
public import Idealize.ShloMosaic.Lib.Pipeline.Value

@[expose] public section

noncomputable section

namespace Cert.Back

open Cert.Kernel2Ideal Cert.Kernel2Ideal.Gen Idealize.ShloMosaic Idealize.ShloMosaic.TcCoe

/-- The literal of an empty maximum is minus infinity. -/
theorem empty_max : Ideal.ofBits .f32 0xFF800000#32 = (⊥ : EReal) := by simp [Ideal.ofBits, Ideal.ieee]

/-- The feed-forward norm of the carried row. -/
theorem pay3_apply (x : Vec Ideal S512x1024 .f32) (g : Vec Ideal S1x1024 .f32) (a : Fin 512) (c : Fin 1024) :
    k0_pay3 (F := Ideal) x g (ix2 a c) = norm k1024 (fun c => x (ix2 a c)) (fun c => g (ix2 0 c)) c := by
  unfold k0_pay3 norm
  pointwise

/-- The residual row with the two mixers' projections. -/
theorem pay4_apply (x : Vec Ideal S512x1024 .f32) (m : Vec Ideal S512x512 .bf16) (w : Vec Ideal S512x1024 .bf16)
    (n : Vec Ideal S512x512 .bf16) (u : Vec Ideal S512x1024 .bf16) (a : Fin 512) (c : Fin 1024) :
    k0_pay4 (F := Ideal) x m w n u (ix2 a c)
      = x (ix2 a c) + ∑ k : Fin 512, m (ix2 a k) * w (ix2 k c) + ∑ k : Fin 512, n (ix2 a k) * u (ix2 k c) := by
  unfold k0_pay4
  pointwise

/-- The query projection. -/
theorem pay6_apply (x : FVec Ideal S512x1024 .f32) (g : Vec Ideal S1x1024 .f32) (w : Vec Ideal S1024x512 .bf16) (a j : Fin 512) :
    k0_pay6 (F := Ideal) x g w (ix2 a j)
      = proj (fun c => x (ix2 a c)) (fun c => g (ix2 0 c)) (fun c j => w (ix2 c j)) j := by
  unfold k0_pay6 proj norm
  pointwise

/-- The first head's normalised query. -/
theorem pay8_apply (x : FVec Ideal S512x1024 .f32) (g : Vec Ideal S1x1024 .f32) (w : Vec Ideal S1024x512 .bf16) (q : Vec Ideal S1x128 .f32)
    (a : Fin 512) (d : Fin 128) :
    k0_pay8 (F := Ideal) x g w q (ix2 a d)
      = norm k128 (fun d => k0_pay6 (F := Ideal) x g w (ix2 a (lane 0 d))) (fun d => q (ix2 0 d)) d := by
  unfold k0_pay8 norm
  generalize k0_pay6 (F := Ideal) x g w = y
  pointwise
  simp only [lane, Fin.val_zero, Nat.mul_zero, Nat.zero_add]

/-- The first head's weights. -/
theorem pay9_apply (q : FVec Ideal S512x128 .f32) (k : Vec Ideal S256x128 .bf16) (a : Fin 512) (n : Fin 256) :
    k0_pay9 (F := Ideal) q k (ix2 a n) = weight (fun n => ∑ d, q (ix2 a d) * scale * k (ix2 n d)) n := by
  unfold k0_pay9 weight top
  pointwise
  rw [empty_max]

/-- The second head's weights. -/
theorem pay10_apply (y : FVec Ideal S512x512 .f32) (q : Vec Ideal S1x128 .f32) (k : Vec Ideal S256x128 .bf16) (a : Fin 512) (n : Fin 256) :
    k0_pay10 (F := Ideal) y q k (ix2 a n)
      = weight (fun n => ∑ d, query (fun j => y (ix2 a j)) (fun d => q (ix2 0 d)) 1 d * k (ix2 n d)) n := by
  unfold k0_pay10 weight top query norm
  pointwise
  rw [empty_max]
  rfl

/-- The third head's weights. -/
theorem pay14_apply (y : FVec Ideal S512x512 .f32) (q : Vec Ideal S1x128 .f32) (k : Vec Ideal S256x128 .bf16) (a : Fin 512) (n : Fin 256) :
    k0_pay14 (F := Ideal) (k0_pay11 y) (k0_pay12 q) (k0_pay13 y) k (ix2 a n)
      = weight (fun n => ∑ d, query (fun j => y (ix2 a j)) (fun d => q (ix2 0 d)) 2 d * k (ix2 n d)) n := by
  unfold k0_pay14 k0_pay13 k0_pay12 k0_pay11 weight top query norm
  pointwise
  rw [empty_max]
  rfl

/-- The fourth head's weights. -/
theorem pay17_apply (y : FVec Ideal S512x512 .f32) (q : Vec Ideal S1x128 .f32) (k : Vec Ideal S256x128 .bf16) (a : Fin 512) (n : Fin 256) :
    k0_pay17 (F := Ideal) (k0_pay15 y q k) (k0_pay16 y q k) (ix2 a n)
      = weight (fun n => ∑ d, query (fun j => y (ix2 a j)) (fun d => q (ix2 0 d)) 3 d * k (ix2 n d)) n := by
  unfold k0_pay17 k0_pay16 k0_pay15 weight top query norm
  pointwise
  rw [empty_max]
  rfl

/-- A head's weighted values over its weights' sum. -/
theorem pay19_apply (p : FVec Ideal S512x256 .f32) (v : Vec Ideal S256x128 .bf16) (a : Fin 512) (d : Fin 128) :
    k0_pay19 (F := Ideal) p v (ix2 a d) = Ideal.div (∑ n, p (ix2 a n) * v (ix2 n d)) (∑ n, p (ix2 a n)) := by
  unfold k0_pay19
  pointwise

/-- The row after the cross attention, the heads' outputs being `o` side by side. -/
theorem pay24_apply (x : FVec Ideal S512x1024 .f32) (p : FVec Ideal S512x256 .f32) (o0 o1 o2 : FVec Ideal S512x128 .bf16)
    (pb : FVec Ideal S512x256 .bf16) (v : FVec Ideal S256x128 .bf16) (w : Vec Ideal S512x1024 .bf16) (a : Fin 512) (c : Fin 1024)
    (o : Fin 512 → EReal) (h0 : ∀ d, o0 (ix2 a d) = o (lane 0 d)) (h1 : ∀ d, o1 (ix2 a d) = o (lane 1 d))
    (h2 : ∀ d, o2 (ix2 a d) = o (lane 2 d))
    (h3 : ∀ d, Ideal.div (∑ n, pb (ix2 a n) * v (ix2 n d)) (∑ n, p (ix2 a n)) = o (lane 3 d)) :
    k0_pay24 (F := Ideal) x p o0 o1 o2 pb v (constant S512x128 .f32 0x00000000#32) w (ix2 a c)
      = crossed (fun c => x (ix2 a c)) o (fun j c => w (ix2 j c)) c := by
  unfold k0_pay24 crossed
  pointwise
  refine congrArg (x (ix2 a c) + ·) (Finset.sum_congr rfl fun j _ => congrArg (· * w (ix2 j c)) ?_)
  have hj := j.isLt
  split
  · rw [h0]; exact congrArg o (Fin.ext (by show 128 * 0 + j.val = j.val; omega))
  · split
    · rw [h1]; exact congrArg o (Fin.ext (by show 128 * 1 + (j.val - 128) = _; omega))
    · split
      · rw [h2]; exact congrArg o (Fin.ext (by show 128 * 2 + (j.val - 128 - 128) = _; omega))
      · rw [h3]; exact congrArg o (Fin.ext (by show 128 * 3 + (j.val - 128 - 128 - 128) = _; omega))

/-- The hidden units of a chunk, squared. -/
theorem pay18_apply (h : FVec Ideal S512x1024 .bf16) (w : Vec Ideal S1024x1024 .bf16) (a : Fin 512) (j : Fin 1024) :
    k0_pay18 (F := Ideal) h w (ix2 a j)
      = max (∑ i : Fin 1024, h (ix2 a i) * w (ix2 i j)) 0 * max (∑ i : Fin 1024, h (ix2 a i) * w (ix2 i j)) 0 := by
  unfold k0_pay18
  pointwise

/-- The last three feed-forward chunks. -/
theorem pay25_apply (h : FVec Ideal S512x1024 .bf16) (x : FVec Ideal S512x1024 .f32) (s : FVec Ideal S512x1024 .bf16)
    (u1 w2 u2 w3 u3 : Vec Ideal S1024x1024 .bf16) (a : Fin 512) (c : Fin 1024) :
    k0_pay25 (F := Ideal) h x s u1 w2 u2 w3 u3 (ix2 a c)
      = x (ix2 a c) + ∑ j : Fin 1024, s (ix2 a j) * u1 (ix2 j c)
        + ∑ j : Fin 1024, max (∑ i : Fin 1024, h (ix2 a i) * w2 (ix2 i j)) 0 * max (∑ i : Fin 1024, h (ix2 a i) * w2 (ix2 i j)) 0 * u2 (ix2 j c)
        + ∑ j : Fin 1024, max (∑ i : Fin 1024, h (ix2 a i) * w3 (ix2 i j)) 0 * max (∑ i : Fin 1024, h (ix2 a i) * w3 (ix2 i j)) 0 * u3 (ix2 j c) := by
  unfold k0_pay25
  pointwise

/-- The first feed-forward chunk. -/
theorem pay7_apply (x : Vec Ideal S512x1024 .f32) (h : FVec Ideal S512x1024 .bf16) (w u : Vec Ideal S1024x1024 .bf16) (a : Fin 512) (c : Fin 1024) :
    k0_pay7 (F := Ideal) x h (k0_pay5 w) u (ix2 a c)
      = x (ix2 a c) + ∑ j : Fin 1024, max (∑ i : Fin 1024, h (ix2 a i) * w (ix2 i j)) 0 * max (∑ i : Fin 1024, h (ix2 a i) * w (ix2 i j)) 0 * u (ix2 j c) := by
  unfold k0_pay7 k0_pay5
  pointwise

end Cert.Back
-- ==== Proof.BackBlocks.lean ====
/- What the back call's body leaves at a grid point: in the output's block the feed-forward part of the row carried from
   the point before, in the carried block the row after the cross attention. -/
module

public import proofs.«01_k».proof.Proof.BackBody
public import Idealize.ShloMosaic.Lib.WritesUnit

@[expose] public section

noncomputable section

namespace Cert.Back

open Cert.Kernel2Ideal Cert.Kernel2Ideal.Gen Idealize.ShloMosaic Idealize.ShloMosaic.TcCoe Idealize.ShloMosaic.Tactic

/-- Zero offsets, as spelt by the stores. -/
theorem off2 : (![0, 0] : Fin 2 → ℕ) = fun _ => 0 := by
  funext i
  match i with
  | ⟨0, _⟩ => rfl
  | ⟨1, _⟩ => rfl

/-- A load through a rectangle reads the contents at the shifted position. -/
theorem ld2 {A B n m o p : ℕ} {e : EltTy} (X : Vec Ideal ⟨2, ![A, B]⟩ e)
    (inb : ∀ a, (![o, p] : Fin 2 → ℕ) a + (⟨2, ![n, m]⟩ : Shape).size a ≤ (⟨2, ![A, B]⟩ : Shape).size a)
    (i : Fin n) (j : Fin m) (i' : Fin A) (j' : Fin B) (hi : i'.val = o + i.val) (hj : j'.val = p + j.val) :
    View.ld X (Rect.unit (s := ⟨2, ![A, B]⟩) ![o, p] (⟨2, ![n, m]⟩ : Shape).size inb) (ix2 i j) = X (ix2 i' j') := by
  refine congrArg X (funext fun x => Fin.ext ?_)
  match x with
  | ⟨0, _⟩ => show o + 1 * i.val = i'.val; omega
  | ⟨1, _⟩ => show p + 1 * j.val = j'.val; omega

/-- The second and third heads' weighted values over their weights' sums, and the identity steps. -/
theorem pay20_apply (p : FVec Ideal S512x256 .f32) (v : Vec Ideal S256x128 .bf16) (a : Fin 512) (d : Fin 128) :
    k0_pay20 (F := Ideal) p v (ix2 a d) = Ideal.div (∑ n, p (ix2 a n) * v (ix2 n d)) (∑ n, p (ix2 a n)) := by
  unfold k0_pay20
  pointwise

/-- The third head's. -/
theorem pay21_apply (p : FVec Ideal S512x256 .f32) (v : Vec Ideal S256x128 .bf16) (a : Fin 512) (d : Fin 128) :
    k0_pay21 (F := Ideal) p v (ix2 a d) = Ideal.div (∑ n, p (ix2 a n) * v (ix2 n d)) (∑ n, p (ix2 a n)) := by
  unfold k0_pay21
  pointwise

/-- The fourth head's weights, narrowed. -/
theorem pay22_eq (u : FVec Ideal S512x256 .f32) (w : FVec Ideal S512 .f32) (a : Fin 512) (n : Fin 256) :
    k0_pay22 (F := Ideal) u w (ix2 a n) = k0_pay17 (F := Ideal) u w (ix2 a n) := by
  unfold k0_pay22 k0_pay17
  pointwise

/-- The stored row as computed. -/
theorem pay1_apply (v : FVec Ideal S512x1024 .f32) (a : Fin 512) (c : Fin 1024) : k0_pay1 (F := Ideal) v (ix2 a c) = v (ix2 a c) := by
  unfold k0_pay1
  pointwise

/-- The fourth head's values as loaded. -/
theorem pay23_apply (v : Vec Ideal S256x128 .bf16) (n : Fin 256) (d : Fin 128) : k0_pay23 (F := Ideal) v (ix2 n d) = v (ix2 n d) := by
  unfold k0_pay23
  pointwise

/-- The heads' outputs at a head's lane. -/
theorem heads_lane (q : Fin 512 → EReal) (g : Fin 128 → EReal) (k v : Fin 256 → Fin 512 → EReal) (h : Fin 4) (d : Fin 128) :
    heads q g k v (lane h d) = mix (score q g k h) (fun n => v n (lane h d)) := by
  have e : (⟨(lane h d).val / 128, by omega⟩ : Fin 4) = h := Fin.ext (by show (128 * h.val + d.val) / 128 = h.val; omega)
  unfold heads
  rw [e]

/-- The row after the cross attention, from the blocks read. -/
def rowOf (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x512 .bf16) (x6 : Vec Ideal S1x128 .f32) (x7 : Vec Ideal S256x512 .bf16) (x8 : Vec Ideal S256x512 .bf16) (x9 : Vec Ideal S512x1024 .bf16)
    (a : Fin 512) (e : Fin 1024) : EReal :=
  crossed (mixed (fun c => x0 (ix2 a c)) (fun k => x1 (ix2 a k)) (fun k => x2 (ix2 a k)) (fun k c => x3 (ix2 k c)))
    (heads (proj (mixed (fun c => x0 (ix2 a c)) (fun k => x1 (ix2 a k)) (fun k => x2 (ix2 a k)) (fun k c => x3 (ix2 k c))) (fun c => x4 (ix2 0 c)) (fun c j => x5 (ix2 c j))) (fun d => x6 (ix2 0 d)) (fun n j => x7 (ix2 n j)) (fun n j => x8 (ix2 n j))) (fun j c => x9 (ix2 j c)) e

/-- What the body stores of the row after the cross attention, from its loads. -/
theorem row_apply (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x512 .bf16) (x6 : Vec Ideal S1x128 .f32) (x7 : Vec Ideal S256x512 .bf16) (x8 : Vec Ideal S256x512 .bf16) (x9 : Vec Ideal S512x1024 .bf16)
    (a : Fin 512) (e : Fin 1024) (w1 w2 : Vec Ideal S512x1024 .bf16) (k0 k1 k2 k3 v0 v1 v2 v3 : Vec Ideal S256x128 .bf16)
    (hw1 : ∀ (k : Fin 512) (c : Fin 1024), w1 (ix2 k c) = x3 (ix2 ⟨k.val, by omega⟩ c))
    (hw2 : ∀ (k : Fin 512) (c : Fin 1024), w2 (ix2 k c) = x3 (ix2 ⟨512 + k.val, by omega⟩ c))
    (hk0 : ∀ n d, k0 (ix2 n d) = x7 (ix2 n (lane 0 d))) (hk1 : ∀ n d, k1 (ix2 n d) = x7 (ix2 n (lane 1 d)))
    (hk2 : ∀ n d, k2 (ix2 n d) = x7 (ix2 n (lane 2 d))) (hk3 : ∀ n d, k3 (ix2 n d) = x7 (ix2 n (lane 3 d)))
    (hv0 : ∀ n d, v0 (ix2 n d) = x8 (ix2 n (lane 0 d))) (hv1 : ∀ n d, v1 (ix2 n d) = x8 (ix2 n (lane 1 d)))
    (hv2 : ∀ n d, v2 (ix2 n d) = x8 (ix2 n (lane 2 d))) (hv3 : ∀ n d, v3 (ix2 n d) = x8 (ix2 n (lane 3 d))) :
    k0_pay24 (F := Ideal) (k0_pay4 (F := Ideal) x0 x1 w1 x2 w2) (k0_pay17 (k0_pay15 (k0_pay6 (k0_pay4 (F := Ideal) x0 x1 w1 x2 w2) x4 x5) x6 k3) (k0_pay16 (k0_pay6 (k0_pay4 (F := Ideal) x0 x1 w1 x2 w2) x4 x5) x6 k3)) (k0_pay19 (k0_pay9 (k0_pay8 (k0_pay4 (F := Ideal) x0 x1 w1 x2 w2) x4 x5 x6) k0) v0)
        (k0_pay20 (k0_pay10 (k0_pay6 (k0_pay4 (F := Ideal) x0 x1 w1 x2 w2) x4 x5) x6 k1) v1) (k0_pay21 (k0_pay14 (k0_pay11 (k0_pay6 (k0_pay4 (F := Ideal) x0 x1 w1 x2 w2) x4 x5)) (k0_pay12 x6) (k0_pay13 (k0_pay6 (k0_pay4 (F := Ideal) x0 x1 w1 x2 w2) x4 x5)) k2) v2)
        (k0_pay22 (k0_pay15 (k0_pay6 (k0_pay4 (F := Ideal) x0 x1 w1 x2 w2) x4 x5) x6 k3) (k0_pay16 (k0_pay6 (k0_pay4 (F := Ideal) x0 x1 w1 x2 w2) x4 x5) x6 k3)) (k0_pay23 v3) (constant S512x128 .f32 0x00000000#32) x9 (ix2 a e)
      = rowOf x0 x1 x2 x3 x4 x5 x6 x7 x8 x9 a e := by
  have hm : ∀ c, (k0_pay4 (F := Ideal) x0 x1 w1 x2 w2) (ix2 a c) = (mixed (fun c => x0 (ix2 a c)) (fun k => x1 (ix2 a k)) (fun k => x2 (ix2 a k)) (fun k c => x3 (ix2 k c))) c := fun c => by
    rw [pay4_apply]
    simp only [hw1, hw2]
    rfl
  have e0 := pay8_apply (k0_pay4 (F := Ideal) x0 x1 w1 x2 w2) x4 x5 x6 a
  generalize (k0_pay4 (F := Ideal) x0 x1 w1 x2 w2) = X at hm e0 ⊢
  have hy : ∀ j, k0_pay6 (F := Ideal) X x4 x5 (ix2 a j) = (proj (mixed (fun c => x0 (ix2 a c)) (fun k => x1 (ix2 a k)) (fun k => x2 (ix2 a k)) (fun k c => x3 (ix2 k c))) (fun c => x4 (ix2 0 c)) (fun c j => x5 (ix2 c j))) j := fun j => by
    rw [pay6_apply]; exact congrArg (fun f => proj f _ _ j) (funext hm)
  generalize k0_pay6 (F := Ideal) X x4 x5 = Y at hy e0 ⊢
  have hy' := funext hy
  rw [pay24_apply (o := (heads (proj (mixed (fun c => x0 (ix2 a c)) (fun k => x1 (ix2 a k)) (fun k => x2 (ix2 a k)) (fun k c => x3 (ix2 k c))) (fun c => x4 (ix2 0 c)) (fun c j => x5 (ix2 c j))) (fun d => x6 (ix2 0 d)) (fun n j => x7 (ix2 n j)) (fun n j => x8 (ix2 n j))))]
  · exact congrArg (fun f => crossed f (heads (proj (mixed (fun c => x0 (ix2 a c)) (fun k => x1 (ix2 a k)) (fun k => x2 (ix2 a k)) (fun k c => x3 (ix2 k c))) (fun c => x4 (ix2 0 c)) (fun c j => x5 (ix2 c j))) (fun d => x6 (ix2 0 d)) (fun n j => x7 (ix2 n j)) (fun n j => x8 (ix2 n j))) (fun j c => x9 (ix2 j c)) e) (funext hm)
  · intro d
    rw [heads_lane, pay19_apply]
    simp only [pay9_apply, hk0, hv0, e0, hy]
    rfl
  · intro d
    rw [heads_lane, pay20_apply]
    simp only [pay10_apply, hk1, hv1, hy']
    rfl
  · intro d
    rw [heads_lane, pay21_apply]
    simp only [pay14_apply, hk2, hv2, hy']
    rfl
  · intro d
    rw [heads_lane]
    simp only [pay22_eq, pay17_apply, pay23_apply, hk3, hv3, hy']
    rfl

/-- A sum over the hidden units, chunk by chunk. -/
theorem sum4 (f : Fin 4096 → EReal) : ∑ j, f j = ∑ j : Fin 1024, f ⟨j.val, by omega⟩ + ∑ j : Fin 1024, f ⟨1024 + j.val, by omega⟩
    + ∑ j : Fin 1024, f ⟨2048 + j.val, by omega⟩ + ∑ j : Fin 1024, f ⟨3072 + j.val, by omega⟩ := by
  rw [Fin.sum_univ_add (a := 3072) (b := 1024) f, Fin.sum_univ_add (a := 2048) (b := 1024) fun j => f (Fin.castAdd 1024 j),
    Fin.sum_univ_add (a := 1024) (b := 1024) fun j => f (Fin.castAdd 1024 (Fin.castAdd 1024 j))]
  rfl

/-- What the body stores of the row after the feed-forward part, from its loads. -/
theorem fed_apply (x10 : Vec Ideal S1x1024 .f32) (x11 : Vec Ideal S1024x4096 .bf16) (x12 : Vec Ideal S4096x1024 .bf16) (xs0 : Vec Ideal S512x1024 .f32)
    (a : Fin 512) (e : Fin 1024) (w0 w1 w2 w3 u0 u1 u2 u3 : Vec Ideal S1024x1024 .bf16)
    (hw0 : ∀ c (j : Fin 1024), w0 (ix2 c j) = x11 (ix2 c ⟨j.val, by omega⟩)) (hw1 : ∀ c (j : Fin 1024), w1 (ix2 c j) = x11 (ix2 c ⟨1024 + j.val, by omega⟩))
    (hw2 : ∀ c (j : Fin 1024), w2 (ix2 c j) = x11 (ix2 c ⟨2048 + j.val, by omega⟩)) (hw3 : ∀ c (j : Fin 1024), w3 (ix2 c j) = x11 (ix2 c ⟨3072 + j.val, by omega⟩))
    (hu0 : ∀ (j : Fin 1024) c, u0 (ix2 j c) = x12 (ix2 ⟨j.val, by omega⟩ c)) (hu1 : ∀ (j : Fin 1024) c, u1 (ix2 j c) = x12 (ix2 ⟨1024 + j.val, by omega⟩ c))
    (hu2 : ∀ (j : Fin 1024) c, u2 (ix2 j c) = x12 (ix2 ⟨2048 + j.val, by omega⟩ c)) (hu3 : ∀ (j : Fin 1024) c, u3 (ix2 j c) = x12 (ix2 ⟨3072 + j.val, by omega⟩ c)) :
    k0_pay25 (F := Ideal) (k0_pay3 xs0 x10) (k0_pay7 xs0 (k0_pay3 xs0 x10) (k0_pay5 w0) u0) (k0_pay18 (k0_pay3 xs0 x10) w1) u1 w2 u2 w3 u3 (ix2 a e)
      = fed (fun c => xs0 (ix2 a c)) (fun c => x10 (ix2 0 c)) (fun c j => x11 (ix2 c j)) (fun j c => x12 (ix2 j c)) e := by
  rw [pay25_apply, pay7_apply]
  simp only [pay18_apply, pay3_apply, hw0, hw1, hw2, hw3, hu0, hu1, hu2, hu3]
  unfold fed
  rw [sum4, ← add_assoc, ← add_assoc, ← add_assoc]
  rfl

section

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S512x1024 .f32) (harg14 : arg14.IsWhole) (arg15 : Memref sig .tc .vmem S512x1024 .f32) (harg15 : arg15.IsWhole)
  (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x512 .bf16) (x6 : Vec Ideal S1x128 .f32) (x7 : Vec Ideal S256x512 .bf16) (x8 : Vec Ideal S256x512 .bf16) (x9 : Vec Ideal S512x1024 .bf16) (x10 : Vec Ideal S1x1024 .f32) (x11 : Vec Ideal S1024x4096 .bf16) (x12 : Vec Ideal S4096x1024 .bf16) (xs0 : Vec Ideal S512x1024 .f32)

/-- The output's block at a point with a row before it. -/
theorem out_B (hc0 : ¬cond0_0 i) (a : Fin 512) (e : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0 (ix2 a e)
      = fed (fun c => xs0 (ix2 a c)) (fun c => x10 (ix2 0 c)) (fun c j => x11 (ix2 c j)) (fun j c => x12 (ix2 j c)) e := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread]
  simp only [View.ld_unit_zero (S := S512x1024) off2, View.ld_unit_zero (S := S512x512) off2, View.ld_unit_zero (S := S1x1024) off2, View.ld_unit_zero (S := S1024x512) off2, View.ld_unit_zero (S := S1x128) off2]
  rw [View.canon_unit_zero (S := S512x1024) off2]
  refine fed_apply x10 x11 x12 xs0 a e _ _ _ _ _ _ _ _ ?_ ?_ ?_ ?_ ?_ ?_ ?_ ?_
  · exact fun c j => ld2 x11 _ c j c _ (Nat.zero_add _).symm (Nat.zero_add _).symm
  · exact fun c j => ld2 x11 _ c j c _ (Nat.zero_add _).symm rfl
  · exact fun c j => ld2 x11 _ c j c _ (Nat.zero_add _).symm rfl
  · exact fun c j => ld2 x11 _ c j c _ (Nat.zero_add _).symm rfl
  · exact fun j c => ld2 x12 _ j c _ c (Nat.zero_add _).symm (Nat.zero_add _).symm
  · exact fun j c => ld2 x12 _ j c _ c rfl (Nat.zero_add _).symm
  · exact fun j c => ld2 x12 _ j c _ c rfl (Nat.zero_add _).symm
  · exact fun j c => ld2 x12 _ j c _ c rfl (Nat.zero_add _).symm

/-- The block carried on from a point with a row before it. -/
theorem sout_B (hc0 : ¬cond0_0 i) (a : Fin 512) (e : Fin 1024) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0 (ix2 a e)
      = rowOf x0 x1 x2 x3 x4 x5 x6 x7 x8 x9 a e := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread]
  simp only [View.ld_unit_zero (S := S512x1024) off2, View.ld_unit_zero (S := S512x512) off2, View.ld_unit_zero (S := S1x1024) off2, View.ld_unit_zero (S := S1024x512) off2, View.ld_unit_zero (S := S1x128) off2]
  rw [View.canon_unit_zero (S := S512x1024) off2]
  rw [pay1_apply]
  refine row_apply x0 x1 x2 x3 x4 x5 x6 x7 x8 x9 a e _ _ _ _ _ _ _ _ _ _ ?_ ?_ ?_ ?_ ?_ ?_ ?_ ?_ ?_ ?_
  · exact fun k c => ld2 x3 _ k c _ c (Nat.zero_add _).symm (Nat.zero_add _).symm
  · exact fun k c => ld2 x3 _ k c _ c rfl (Nat.zero_add _).symm
  · exact fun n d => ld2 x7 _ n d n _ (Nat.zero_add _).symm rfl
  · exact fun n d => ld2 x7 _ n d n _ (Nat.zero_add _).symm rfl
  · exact fun n d => ld2 x7 _ n d n _ (Nat.zero_add _).symm rfl
  · exact fun n d => ld2 x7 _ n d n _ (Nat.zero_add _).symm rfl
  · exact fun n d => ld2 x8 _ n d n _ (Nat.zero_add _).symm rfl
  · exact fun n d => ld2 x8 _ n d n _ (Nat.zero_add _).symm rfl
  · exact fun n d => ld2 x8 _ n d n _ (Nat.zero_add _).symm rfl
  · exact fun n d => ld2 x8 _ n d n _ (Nat.zero_add _).symm rfl

/-- The block carried on from a point with none before it, the first. -/
theorem sout_A (hc0 : cond0_0 i) (a : Fin 512) (e : Fin 1024) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 (ix2 a e)
      = rowOf x0 x1 x2 x3 x4 x5 x6 x7 x8 x9 a e := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread]
  simp only [View.ld_unit_zero (S := S512x1024) off2, View.ld_unit_zero (S := S512x512) off2, View.ld_unit_zero (S := S1x1024) off2, View.ld_unit_zero (S := S1024x512) off2, View.ld_unit_zero (S := S1x128) off2]
  rw [View.canon_cons_unit_zero (S := S512x1024) off2]
  rw [pay1_apply]
  refine row_apply x0 x1 x2 x3 x4 x5 x6 x7 x8 x9 a e _ _ _ _ _ _ _ _ _ _ ?_ ?_ ?_ ?_ ?_ ?_ ?_ ?_ ?_ ?_
  · exact fun k c => ld2 x3 _ k c _ c (Nat.zero_add _).symm (Nat.zero_add _).symm
  · exact fun k c => ld2 x3 _ k c _ c rfl (Nat.zero_add _).symm
  · exact fun n d => ld2 x7 _ n d n _ (Nat.zero_add _).symm rfl
  · exact fun n d => ld2 x7 _ n d n _ (Nat.zero_add _).symm rfl
  · exact fun n d => ld2 x7 _ n d n _ (Nat.zero_add _).symm rfl
  · exact fun n d => ld2 x7 _ n d n _ (Nat.zero_add _).symm rfl
  · exact fun n d => ld2 x8 _ n d n _ (Nat.zero_add _).symm rfl
  · exact fun n d => ld2 x8 _ n d n _ (Nat.zero_add _).symm rfl
  · exact fun n d => ld2 x8 _ n d n _ (Nat.zero_add _).symm rfl
  · exact fun n d => ld2 x8 _ n d n _ (Nat.zero_add _).symm rfl

end

end Cert.Back
-- ==== Proof.BackHost.lean ====
/- What a grid point of the back call reads: the host's reshaped arguments, and the block each window takes of them. -/
module

public import proofs.«01_k».proof.Proof.Gen.Kernel2Ideal.Value
public import proofs.«01_k».proof.Proof.BackBlocks
public import Idealize.ShloMosaic.Lib.Claim
public import Idealize.ShloMosaic.Lib.Pointwise
public import Idealize.ShloMosaic.Lib.Pipeline.ValueKit.Point

@[expose] public section

set_option maxRecDepth 16384

noncomputable section

namespace Cert.Back

open Cert.Kernel2Ideal Cert.Kernel2Ideal.Gen Idealize.ShloMosaic Idealize.ShloMosaic.TcCoe Idealize.ShloMosaic.Tactic

variable (m : (ℓ : Loc nD τ sig) → Buf (Elt Ideal) ℓ)

/-- The blocks of rows and of the memory a grid point takes. -/
theorem rows_index (T : Fin cfg0.N) : (win0_0.index T 0 = min T.val 63 ∧ win0_0.index T 1 = 0) ∧ (win0_1.index T 0 = min T.val 63 ∧ win0_1.index T 1 = 0)
    ∧ (win0_2.index T 0 = min T.val 63 ∧ win0_2.index T 1 = 0) ∧ (win0_7.index T 0 = min T.val 63 / 4 ∧ win0_7.index T 1 = 0)
    ∧ (win0_8.index T 0 = min T.val 63 / 4 ∧ win0_8.index T 1 = 0) ∧ (win0_13.index T 0 = T.val - 1 ∧ win0_13.index T 1 = 0) :=
  (by decide +kernel : ∀ T : Fin grid0.N, (win0_0.index T 0 = min T.val 63 ∧ win0_0.index T 1 = 0) ∧ (win0_1.index T 0 = min T.val 63 ∧ win0_1.index T 1 = 0)
    ∧ (win0_2.index T 0 = min T.val 63 ∧ win0_2.index T 1 = 0) ∧ (win0_7.index T 0 = min T.val 63 / 4 ∧ win0_7.index T 1 = 0)
    ∧ (win0_8.index T 0 = min T.val 63 / 4 ∧ win0_8.index T 1 = 0) ∧ (win0_13.index T 0 = T.val - 1 ∧ win0_13.index T 1 = 0)) T

/-- Every grid point takes the weights and gains whole. -/
theorem whole_index (T : Fin cfg0.N) : ∀ a, win0_3.index T a = 0 ∧ win0_4.index T a = 0 ∧ win0_5.index T a = 0 ∧ win0_6.index T a = 0
    ∧ win0_9.index T a = 0 ∧ win0_10.index T a = 0 ∧ win0_11.index T a = 0 ∧ win0_12.index T a = 0 :=
  (by decide +kernel : ∀ T : Fin grid0.N, ∀ a, win0_3.index T a = 0 ∧ win0_4.index T a = 0 ∧ win0_5.index T a = 0 ∧ win0_6.index T a = 0
    ∧ win0_9.index T a = 0 ∧ win0_10.index T a = 0 ∧ win0_11.index T a = 0 ∧ win0_12.index T a = 0) T

/-- An entry of the block of residual rows. -/
theorem blk_x (c : Dev nD) (T : Fin cfg0.N) (a : Fin 512) (l : Fin 1024) (b : Fin 16) (s : Fin 2048) (hb : 2048 * b.val + s.val = 512 * min T.val 63 + a.val) :
    (iblk m c 0 T : Vec Ideal S512x1024 .f32) (ix2 a l) = (m ((c : Thread nD τ).loc main_arg0) : FVec Ideal S16x2048x1024 .f32) (ix3 b s l) := by
  blk_ext! [iblk, V, rows_index T]

/-- An entry of the block of the first mixer's rows. -/
theorem blk_ym (c : Dev nD) (T : Fin cfg0.N) (a : Fin 512) (l : Fin 512) (b : Fin 16) (s : Fin 2048) (hb : 2048 * b.val + s.val = 512 * min T.val 63 + a.val) :
    (iblk m c 1 T : Vec Ideal S512x512 .bf16) (ix2 a l) = (m ((c : Thread nD τ).loc main_arg1) : FVec Ideal S16x2048x512 .f32) (ix3 b s l) := by
  blk_ext! [iblk, V, rows_index T]

/-- An entry of the block of the second mixer's rows. -/
theorem blk_ya (c : Dev nD) (T : Fin cfg0.N) (a : Fin 512) (l : Fin 512) (b : Fin 16) (s : Fin 2048) (hb : 2048 * b.val + s.val = 512 * min T.val 63 + a.val) :
    (iblk m c 2 T : Vec Ideal S512x512 .bf16) (ix2 a l) = (m ((c : Thread nD τ).loc main_arg2) : FVec Ideal S16x2048x512 .f32) (ix3 b s l) := by
  blk_ext! [iblk, V, rows_index T]

/-- An entry of the block of the memory's keys. -/
theorem blk_k (c : Dev nD) (T : Fin cfg0.N) (n : Fin 256) (j : Fin 512) (b : Fin 16) (hb : b.val = min T.val 63 / 4) :
    (iblk m c 7 T : Vec Ideal S256x512 .bf16) (ix2 n j)
      = (m ((c : Thread nD τ).loc main_arg3) : FVec Ideal S16x256x4x128 .f32) (ix4 b n ⟨j.val / 128, by omega⟩ ⟨j.val % 128, by omega⟩) := by
  blk_ext! [iblk, V, rows_index T]

/-- An entry of the block of the memory's values. -/
theorem blk_v (c : Dev nD) (T : Fin cfg0.N) (n : Fin 256) (j : Fin 512) (b : Fin 16) (hb : b.val = min T.val 63 / 4) :
    (iblk m c 8 T : Vec Ideal S256x512 .bf16) (ix2 n j)
      = (m ((c : Thread nD τ).loc main_arg4) : FVec Ideal S16x256x4x128 .f32) (ix4 b n ⟨j.val / 128, by omega⟩ ⟨j.val % 128, by omega⟩) := by
  blk_ext! [iblk, V, rows_index T]

/-- The output projection's weights, whole at every point. -/
theorem blk_wout (c : Dev nD) (T : Fin cfg0.N) (a l : Fin 1024) :
    (iblk m c 3 T : Vec Ideal S1024x1024 .bf16) (ix2 a l) = (m ((c : Thread nD τ).loc main_arg5) : FVec Ideal S1024x1024 .f32) (ix2 a l) := by
  blk_ext! [iblk, V, whole_index T]

/-- The cross attention's norm gain. -/
theorem blk_gx (c : Dev nD) (T : Fin cfg0.N) (l : Fin 1024) :
    (iblk m c 4 T : Vec Ideal S1x1024 .f32) (ix2 0 l) = (m ((c : Thread nD τ).loc main_arg6) : FVec Ideal S1024 .f32) (ix1 l) := by
  blk_ext! [iblk, V, whole_index T]

/-- The query projection's weights. -/
theorem blk_wq (c : Dev nD) (T : Fin cfg0.N) (a : Fin 1024) (l : Fin 512) :
    (iblk m c 5 T : Vec Ideal S1024x512 .bf16) (ix2 a l) = (m ((c : Thread nD τ).loc main_arg7) : FVec Ideal S1024x512 .f32) (ix2 a l) := by
  blk_ext! [iblk, V, whole_index T]

/-- The query norm's gain. -/
theorem blk_qg (c : Dev nD) (T : Fin cfg0.N) (l : Fin 128) :
    (iblk m c 6 T : Vec Ideal S1x128 .f32) (ix2 0 l) = (m ((c : Thread nD τ).loc main_arg8) : FVec Ideal S128 .f32) (ix1 l) := by
  blk_ext! [iblk, V, whole_index T]

/-- The cross attention's output projection. -/
theorem blk_wo (c : Dev nD) (T : Fin cfg0.N) (a : Fin 512) (l : Fin 1024) :
    (iblk m c 9 T : Vec Ideal S512x1024 .bf16) (ix2 a l) = (m ((c : Thread nD τ).loc main_arg9) : FVec Ideal S512x1024 .f32) (ix2 a l) := by
  blk_ext! [iblk, V, whole_index T]

/-- The feed-forward part's norm gain. -/
theorem blk_gf (c : Dev nD) (T : Fin cfg0.N) (l : Fin 1024) :
    (iblk m c 10 T : Vec Ideal S1x1024 .f32) (ix2 0 l) = (m ((c : Thread nD τ).loc main_arg10) : FVec Ideal S1024 .f32) (ix1 l) := by
  blk_ext! [iblk, V, whole_index T]

/-- The first feed-forward weights. -/
theorem blk_w1 (c : Dev nD) (T : Fin cfg0.N) (a : Fin 1024) (l : Fin 4096) :
    (iblk m c 11 T : Vec Ideal S1024x4096 .bf16) (ix2 a l) = (m ((c : Thread nD τ).loc main_arg11) : FVec Ideal S1024x4096 .f32) (ix2 a l) := by
  blk_ext! [iblk, V, whole_index T]

/-- The second feed-forward weights. -/
theorem blk_w2 (c : Dev nD) (T : Fin cfg0.N) (a : Fin 4096) (l : Fin 1024) :
    (iblk m c 12 T : Vec Ideal S4096x1024 .bf16) (ix2 a l) = (m ((c : Thread nD τ).loc main_arg12) : FVec Ideal S4096x1024 .f32) (ix2 a l) := by
  blk_ext! [iblk, V, whole_index T]

end Cert.Back
-- ==== Proof.BackState.lean ====
/- The block the back call carries from one grid point to the next, and the array it leaves: each point computes its rows up
   to the cross attention and hands them on, the next point adds the feed-forward part and writes them. -/
module

public import proofs.«01_k».proof.Proof.BackHost

@[expose] public section

set_option maxRecDepth 16384

noncomputable section

namespace Cert.Back

open Cert.Kernel2Ideal Cert.Kernel2Ideal.Gen Idealize.ShloMosaic Idealize.ShloMosaic.TcCoe Idealize.ShloMosaic.Tactic

/-- A position's row after the mixers' projection, from the arguments. -/
def xrow (x : FVec Ideal S16x2048x1024 .f32) (ym ya : FVec Ideal S16x2048x512 .f32) (wout : FVec Ideal S1024x1024 .f32) (b : Fin 16) (s : Fin 2048) : Fin 1024 → EReal :=
  (mixed (fun c => x (ix3 b s c)) (fun k => ym (ix3 b s k)) (fun k => ya (ix3 b s k)) (fun k c => wout (ix2 k c)))

/-- A position's row after the cross attention, from the arguments. -/
def crow (x : FVec Ideal S16x2048x1024 .f32) (ym ya : FVec Ideal S16x2048x512 .f32) (k v : FVec Ideal S16x256x4x128 .f32) (wout : FVec Ideal S1024x1024 .f32)
    (gx : FVec Ideal S1024 .f32) (wq : FVec Ideal S1024x512 .f32) (qg : FVec Ideal S128 .f32) (wo : FVec Ideal S512x1024 .f32)
    (b : Fin 16) (s : Fin 2048) (e : Fin 1024) : EReal :=
  crossed (xrow x ym ya wout b s)
    (heads (proj (xrow x ym ya wout b s) (fun c => gx (ix1 c)) (fun c j => wq (ix2 c j))) (fun d => qg (ix1 d))
      (fun n j => k (ix4 b n ⟨j.val / 128, by omega⟩ ⟨j.val % 128, by omega⟩)) (fun n j => v (ix4 b n ⟨j.val / 128, by omega⟩ ⟨j.val % 128, by omega⟩)))
    (fun j c => wo (ix2 j c)) e

/-- A position's row after the feed-forward part, from the arguments. -/
def frow (x : FVec Ideal S16x2048x1024 .f32) (ym ya : FVec Ideal S16x2048x512 .f32) (k v : FVec Ideal S16x256x4x128 .f32) (wout : FVec Ideal S1024x1024 .f32)
    (gx : FVec Ideal S1024 .f32) (wq : FVec Ideal S1024x512 .f32) (qg : FVec Ideal S128 .f32) (wo : FVec Ideal S512x1024 .f32)
    (gf : FVec Ideal S1024 .f32) (w1 : FVec Ideal S1024x4096 .f32) (w2 : FVec Ideal S4096x1024 .f32) (b : Fin 16) (s : Fin 2048) (e : Fin 1024) : EReal :=
  fed (crow x ym ya k v wout gx wq qg wo b s) (fun c => gf (ix1 c)) (fun c j => w1 (ix2 c j)) (fun j c => w2 (ix2 j c)) e

variable (m : (ℓ : Loc nD τ sig) → Buf (Elt Ideal) ℓ)

/-- The grid has 65 points. -/
theorem lt65 (T : Fin cfg0.N) : T.val < 65 := T.isLt

/-- The row a grid point computes is its position's. -/
theorem rowOf_eq (c : Dev nD) (T : Fin cfg0.N) (a : Fin 512) (e : Fin 1024) (b : Fin 16) (s : Fin 2048) (hb : 2048 * b.val + s.val = 512 * min T.val 63 + a.val) :
    rowOf (iblk m c 0 T) (iblk m c 1 T) (iblk m c 2 T) (iblk m c 3 T) (iblk m c 4 T) (iblk m c 5 T) (iblk m c 6 T) (iblk m c 7 T) (iblk m c 8 T) (iblk m c 9 T) a e = crow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b s e := by
  have hb' : b.val = min T.val 63 / 4 := by omega
  unfold rowOf crow xrow
  simp only [blk_x m c T a _ b s hb, blk_ym m c T a _ b s hb, blk_ya m c T a _ b s hb, blk_k m c T _ _ b hb', blk_v m c T _ _ b hb',
    blk_wout m c T, blk_gx m c T, blk_wq m c T, blk_qg m c T, blk_wo m c T]

/-- The carried block after a grid point holds the point's rows. -/
theorem carried (c : Dev nD) (T : Fin cfg0.N) (a : Fin 512) (e : Fin 1024) (b : Fin 16) (s : Fin 2048) (hb : 2048 * b.val + s.val = 512 * min T.val 63 + a.val) :
    (outsAt0 m c T.val T.isLt).2 (ix2 a e) = crow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b s e := by
  refine Eq.trans ?_ (rowOf_eq m c T a e b s hb)
  by_cases h0 : T.val % 65 = 0
  · rw [outsAt0_A m c T h0]
    dsimp only
    rw [sout_A]
  · rw [outsAt0_B m c T h0]
    dsimp only
    rw [sout_B]

/-- The output's block after a grid point holds the rows of the point before, the feed-forward part added. -/
theorem written (c : Dev nD) (T : Fin cfg0.N) (hT : T.val ≠ 0) (a : Fin 512) (e : Fin 1024) (b : Fin 16) (s : Fin 2048)
    (hb : 2048 * b.val + s.val = 512 * (T.val - 1) + a.val) :
    (outsAt0 m c T.val T.isLt).1 (ix2 a e) = frow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b s e := by
  have h65 := lt65 T
  have h0 : ¬T.val % 65 = 0 := by omega
  have hc := fun x => carried m c ⟨T.val - 1, by omega⟩ a x b s (by show _ = 512 * min (T.val - 1) 63 + a.val; omega)
  rw [outsAt0_B m c T h0]
  dsimp only at hc ⊢
  rw [out_B]
  unfold frow
  simp only [hc, blk_gf m c T, blk_w1 m c T, blk_w2 m c T]

/-- Every point but the first writes its output's block back. -/
theorem flush_pos : ∀ t : Fin cfg0.N, (cfg0.win 13).flush t = true → t.val ≠ 0 :=
  (by decide +kernel : ∀ t : Fin grid0.N, win0_13.flush t = true → t.val ≠ 0)

/-- The kernel's result array. -/
theorem result (c : Dev nD) : ((dats m 0 c).arrAt 13 cfg0.N : FVec Ideal S32768x1024 .f32)
    = fun i : S32768x1024.Idx => frow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨(i 0).val / 2048, by have : (i 0).val < 32768 := (i 0).isLt; omega⟩ ⟨(i 0).val % 2048, by omega⟩ (i 1) := by
  refine (dats m 0 c).arrAt_eq_of_covers 13 _ (by decide +kernel) fun t hf y => ?_
  have ht := flush_pos t hf
  have h65 := lt65 t
  obtain ⟨e0, e1⟩ := (rows_index t).2.2.2.2.2
  blk_simp
  rw [after0_13]
  have h0 : (y 0).val < 512 := (y 0).isLt
  have h1 : (y 1).val < 1024 := (y 1).isLt
  have ey : (y : S512x1024.Idx) = ix2 ⟨(y 0).val, h0⟩ ⟨(y 1).val, h1⟩ := by
    funext x
    match x with
    | ⟨0, _⟩ => rfl
    | ⟨1, _⟩ => rfl
  have en : (win0_13.index t 0 * 512 + (y 0).val) / 2048 < 16 := by rw [e0]; omega
  have e' : ((win0_13.blk t).view.emb y 1) = (⟨(y 1).val, h1⟩ : Fin 1024) := Fin.ext (by show win0_13.index t 1 * 1024 + 1 * (y 1).val = (y 1).val; rw [e1]; omega)
  refine (congrArg (outsAt0 m c t.val t.isLt).1 ey).trans ((written m c t ht ⟨(y 0).val, h0⟩ ⟨(y 1).val, h1⟩ ⟨_, en⟩
    ⟨(win0_13.index t 0 * 512 + (y 0).val) % 2048, by omega⟩ ?_).trans ?_)
  · show 2048 * ((win0_13.index t 0 * 512 + (y 0).val) / 2048) + (win0_13.index t 0 * 512 + (y 0).val) % 2048 = 512 * (t.val - 1) + (y 0).val
    rw [e0]
    omega
  · exact congrArg _ e'.symm

end Cert.Back
-- ==== Proof.BackRef.lean ====
/- The back call's reference read at an index: the same row functions, its scores scaled after their sum and its weights
   divided before the values are summed. -/
module

public import proofs.«01_k».proof.Proof.Gen.Reference2Ideal.Read
public import proofs.«01_k».proof.Proof.BackMath
public import proofs.«01_k».proof.Proof.Ref
public import Idealize.ShloMosaic.Lib.Pointwise

@[expose] public section

set_option maxRecDepth 16384

noncomputable section

namespace Cert.Back

open Cert.Reference2Ideal Cert.Reference2Ideal.Gen Cert.Reference2Ideal.Read Idealize.ShloMosaic Idealize.ShloMosaic.TcCoe Idealize.ShloMosaic.Tactic

variable (x0 : FVec Ideal S16x2048x1024 .f32) (x1 x2 : FVec Ideal S16x2048x512 .f32) (x3 x4 : FVec Ideal S16x256x4x128 .f32)
  (x5 : FVec Ideal S1024x1024 .f32) (x6 : FVec Ideal S1024 .f32) (x7 : FVec Ideal S1024x512 .f32) (x8 : FVec Ideal S128 .f32)
  (x9 : FVec Ideal S512x1024 .f32) (x10 : FVec Ideal S1024 .f32) (x11 : FVec Ideal S1024x4096 .f32) (x12 : FVec Ideal S4096x1024 .f32)

/-- The reference's row after the mixers' projection. -/
theorem ref_mixed (b : Fin 16) (s : Fin 2048) (c : Fin 1024) :
    val_main_v2 (F := Ideal) x0 x1 x2 x5 (ix3 b s c)
      = mixed (fun c => x0 (ix3 b s c)) (fun k => x1 (ix3 b s k)) (fun k => x2 (ix3 b s k)) (fun k c => x5 (ix2 k c)) c := by
  unfold val_main_v2 val_main_v1 val_main_v0 mixed
  pointwise
  exact (add_assoc _ _ _).symm

/-- Its norm before the cross attention. -/
theorem ref_norm (b : Fin 16) (s : Fin 2048) (c : Fin 1024) :
    val_main_v15 (F := Ideal) x0 x1 x2 x5 x6 (ix3 b s c)
      = norm k1024 (fun c => val_main_v2 (F := Ideal) x0 x1 x2 x5 (ix3 b s c)) (fun c => x6 (ix1 c)) c := by
  unfold val_main_v15 val_main_v14 val_main_v13 val_main_v12 val_main_v11 val_main_v10 val_main_v9 val_main_v8 val_main_v7 val_main_v6 val_main_v5 val_main_v4 val_main_v3 val_main_cst val_main_cst_0 val_main_cst_1
  generalize val_main_v2 (F := Ideal) x0 x1 x2 x5 = w
  unfold norm
  pointwise
  rw [div1024]

/-- Its query projection. -/
theorem ref_proj (b : Fin 16) (s : Fin 2048) (j : Fin 512) :
    val_main_v16 (F := Ideal) x0 x1 x2 x5 x6 x7 (ix3 b s j)
      = ∑ c : Fin 1024, val_main_v15 (F := Ideal) x0 x1 x2 x5 x6 (ix3 b s c) * x7 (ix2 c j) := by
  unfold val_main_v16
  generalize val_main_v15 (F := Ideal) x0 x1 x2 x5 x6 = w
  pointwise

/-- Its normalised query. -/
theorem ref_query (b : Fin 16) (s : Fin 2048) (h : Fin 4) (d : Fin 128) :
    val_main_v30 (F := Ideal) x0 x1 x2 x5 x6 x7 x8 (ix4 b s h d)
      = norm k128 (fun d => val_main_v16 (F := Ideal) x0 x1 x2 x5 x6 x7 (ix3 b s (lane h d))) (fun d => x8 (ix1 d)) d := by
  unfold val_main_v30 val_main_v29 val_main_v28 val_main_v27 val_main_v26 val_main_v25 val_main_v24 val_main_v23 val_main_v22 val_main_v21 val_main_v20 val_main_v19 val_main_v18 val_main_v17 val_main_cst_2 val_main_cst_3 val_main_cst_4
  generalize val_main_v16 (F := Ideal) x0 x1 x2 x5 x6 x7 = w
  unfold norm
  pointwise
  rw [div128]
  have e : ∀ d : Fin 128, (⟨h.val * 128 + d.val, by omega⟩ : Fin 512) = lane h d := fun d => Fin.ext (by show h.val * 128 + d.val = 128 * h.val + d.val; omega)
  simp only [e]

/-- Its scores, scaled after the sum. -/
theorem ref_scores (b : Fin 16) (h : Fin 4) (s : Fin 2048) (n : Fin 256) :
    val_main_v33 (F := Ideal) x0 x1 x2 x3 x5 x6 x7 x8 (ix4 b h s n)
      = (∑ d : Fin 128, val_main_v30 (F := Ideal) x0 x1 x2 x5 x6 x7 x8 (ix4 b s h d) * x3 (ix4 b n h d)) * scale := by
  unfold val_main_v33 val_main_v32 val_main_v31 val_main_cst_5
  generalize val_main_v30 (F := Ideal) x0 x1 x2 x5 x6 x7 x8 = w
  pointwise

/-- Its largest score. -/
theorem ref_top (b : Fin 16) (h : Fin 4) (s : Fin 2048) :
    val_main_v36 (F := Ideal) x0 x1 x2 x3 x5 x6 x7 x8 (ix3 b h s)
      = top (fun n => val_main_v33 (F := Ideal) x0 x1 x2 x3 x5 x6 x7 x8 (ix4 b h s n)) := by
  rw [val_main_v36_apply, val_main_v35_apply, val_main_cst_7_apply]
  unfold val_main_v34
  rw [Cert.Att.hostMax, val_main_cst_6_apply]
  generalize val_main_v33 (F := Ideal) x0 x1 x2 x3 x5 x6 x7 x8 = w
  show max (Ideal.ofBits .f32 0xFF800000#32) (Finset.fold max (Ideal.ofBits .f32 0xFF800000#32) _ _) = _
  rw [Cert.Att.inf_bits]
  exact max_eq_right bot_le

/-- Its normalised weights. -/
theorem ref_weights (b : Fin 16) (h : Fin 4) (s : Fin 2048) (n : Fin 256) :
    val_main_v44 (F := Ideal) x0 x1 x2 x3 x5 x6 x7 x8 (ix4 b h s n)
      = Ideal.div (weight (fun n => val_main_v33 (F := Ideal) x0 x1 x2 x3 x5 x6 x7 x8 (ix4 b h s n)) n)
          (∑ n, weight (fun n => val_main_v33 (F := Ideal) x0 x1 x2 x3 x5 x6 x7 x8 (ix4 b h s n)) n) := by
  unfold val_main_v44 val_main_v43 val_main_v42 val_main_v41 val_main_v40 val_main_v39 val_main_v38 val_main_v37 val_main_cst_8
  have e := ref_top x0 x1 x2 x3 x5 x6 x7 x8 b h s
  generalize val_main_v36 (F := Ideal) x0 x1 x2 x3 x5 x6 x7 x8 = u at e ⊢
  generalize val_main_v33 (F := Ideal) x0 x1 x2 x3 x5 x6 x7 x8 = w at e ⊢
  unfold weight
  pointwise
  rw [e]

/-- Its heads' outputs side by side. -/
theorem ref_heads (b : Fin 16) (s : Fin 2048) (h : Fin 4) (d : Fin 128) :
    val_main_v47 (F := Ideal) x0 x1 x2 x3 x4 x5 x6 x7 x8 (ix3 b s (lane h d))
      = ∑ n : Fin 256, x4 (ix4 b n h d) * val_main_v44 (F := Ideal) x0 x1 x2 x3 x5 x6 x7 x8 (ix4 b h s n) := by
  unfold val_main_v47 val_main_v46 val_main_v45
  generalize val_main_v44 (F := Ideal) x0 x1 x2 x3 x5 x6 x7 x8 = w
  pointwise
  have e : (⟨(128 * h.val + d.val) / 128, by omega⟩ : Fin 4) = h := Fin.ext (by show (128 * h.val + d.val) / 128 = h.val; omega)
  have e' : (⟨(128 * h.val + d.val) % 128, by omega⟩ : Fin 128) = d := Fin.ext (by show (128 * h.val + d.val) % 128 = d.val; omega)
  rw [e, e']

/-- Its row after the cross attention. -/
theorem ref_crossed (b : Fin 16) (s : Fin 2048) (c : Fin 1024) :
    val_main_v49 (F := Ideal) x0 x1 x2 x3 x4 x5 x6 x7 x8 x9 (ix3 b s c)
      = crossed (fun c => val_main_v2 (F := Ideal) x0 x1 x2 x5 (ix3 b s c))
          (fun j => val_main_v47 (F := Ideal) x0 x1 x2 x3 x4 x5 x6 x7 x8 (ix3 b s j)) (fun j c => x9 (ix2 j c)) c := by
  unfold val_main_v49 val_main_v48 crossed
  generalize val_main_v2 (F := Ideal) x0 x1 x2 x5 = w
  generalize val_main_v47 (F := Ideal) x0 x1 x2 x3 x4 x5 x6 x7 x8 = o
  pointwise

/-- Its norm before the feed-forward part. -/
theorem ref_norm2 (b : Fin 16) (s : Fin 2048) (c : Fin 1024) :
    val_main_v62 (F := Ideal) x0 x1 x2 x3 x4 x5 x6 x7 x8 x9 x10 (ix3 b s c)
      = norm k1024 (fun c => val_main_v49 (F := Ideal) x0 x1 x2 x3 x4 x5 x6 x7 x8 x9 (ix3 b s c)) (fun c => x10 (ix1 c)) c := by
  unfold val_main_v62 val_main_v61 val_main_v60 val_main_v59 val_main_v58 val_main_v57 val_main_v56 val_main_v55 val_main_v54 val_main_v53 val_main_v52 val_main_v51 val_main_v50 val_main_cst_9 val_main_cst_10 val_main_cst_11
  generalize val_main_v49 (F := Ideal) x0 x1 x2 x3 x4 x5 x6 x7 x8 x9 = w
  unfold norm
  pointwise
  rw [div1024]

/-- Its row after the feed-forward part. -/
theorem ref_fed (b : Fin 16) (s : Fin 2048) (c : Fin 1024) :
    val_main_v67 (F := Ideal) x0 x1 x2 x3 x4 x5 x6 x7 x8 x9 x10 x11 x12 (ix3 b s c)
      = fed (fun c => val_main_v49 (F := Ideal) x0 x1 x2 x3 x4 x5 x6 x7 x8 x9 (ix3 b s c)) (fun c => x10 (ix1 c)) (fun c j => x11 (ix2 c j)) (fun j c => x12 (ix2 j c)) c := by
  have e := ref_norm2 x0 x1 x2 x3 x4 x5 x6 x7 x8 x9 x10 b s
  unfold val_main_v67 val_main_v66 val_main_v65 val_main_v64 val_main_v63 val_main_call0_v0 val_main_call0_cst fed unit
  generalize val_main_v62 (F := Ideal) x0 x1 x2 x3 x4 x5 x6 x7 x8 x9 x10 = u at e ⊢
  generalize val_main_v49 (F := Ideal) x0 x1 x2 x3 x4 x5 x6 x7 x8 x9 = w at e ⊢
  simp only [← e]
  pointwise

/-- The rows of all positions, one after another. -/
theorem ref_flat (b : Fin 16) (s : Fin 2048) (c : Fin 1024) :
    val_main_v68 (F := Ideal) x0 x1 x2 x3 x4 x5 x6 x7 x8 x9 x10 x11 x12 (ix2 ⟨2048 * b.val + s.val, by omega⟩ c)
      = val_main_v67 (F := Ideal) x0 x1 x2 x3 x4 x5 x6 x7 x8 x9 x10 x11 x12 (ix3 b s c) := by
  unfold val_main_v68
  generalize val_main_v67 (F := Ideal) x0 x1 x2 x3 x4 x5 x6 x7 x8 x9 x10 x11 x12 = w
  pointwise

end Cert.Back
-- ==== Proof.BackJoin.lean ====
/- The back call's result is the reference's: a root-mean-square norm is a real number whatever its row, so with real keys and
   query gains the scores are real and the quotient by the weights' sum may be taken before or after the values are summed. -/
module

public import proofs.«01_k».proof.Proof.BackState
public import proofs.«01_k».proof.Proof.BackRef
public import proofs.«01_k».proof.Proof.Join
public import proofs.«01_k».proof.Proof.Gen.Pre_finite_scores
public import Idealize.ShloMosaic.Lib.ReduceAll

@[expose] public section

set_option maxRecDepth 16384

noncomputable section

namespace Cert.Back

open Idealize.ShloMosaic Idealize.ShloMosaic.TcCoe Idealize.ShloMosaic.Tactic

/-- The norm's small literal is a positive real number. -/
theorem eps_pos : ∃ r : ℝ, 0 < r ∧ eps = (r : EReal) := by
  refine ⟨8796093 * (2 ^ 43)⁻¹, by positivity, ?_⟩
  simp [Ideal.ofBits, Ideal.ieee]

/-- One over 128 is a positive real number. -/
theorem k128_pos : ∃ r : ℝ, 0 < r ∧ k128 = (r : EReal) := by
  refine ⟨128⁻¹, by positivity, ?_⟩
  simp [Ideal.ofBits, Ideal.ieee]; rw [← EReal.coe_mul]; norm_num

/-- The scale is a positive real number. -/
theorem scale_pos : ∃ r : ℝ, 0 < r ∧ scale = (r : EReal) := by
  refine ⟨11863283 * (2 ^ 27)⁻¹, by positivity, ?_⟩
  simp [Ideal.ofBits, Ideal.ieee]

/-- A square is not negative. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A norm over 128 lanes is real when its gain is, whatever the row: an infinite mean square divides everything to zero. -/
theorem norm_real (v g : Fin 128 → EReal) (hg : ∀ d, ∃ r : ℝ, g d = (r : EReal)) (c : Fin 128) : ∃ r : ℝ, norm k128 v g c = (r : EReal) := by
  obtain ⟨κ, hκ, eκ⟩ := k128_pos
  obtain ⟨ε, hε, eε⟩ := eps_pos
  obtain ⟨γ, eγ⟩ := hg c
  unfold norm
  rw [eκ, eε, eγ]
  have hS : 0 ≤ ∑ i, v i * v i := Finset.sum_nonneg fun i _ => sq_nonneg (v i)
  have hle : v c * v c ≤ ∑ i, v i * v i := Finset.single_le_sum (f := fun i => v i * v i) (fun i _ => sq_nonneg (v i)) (Finset.mem_univ c)
  generalize (∑ i, v i * v i) = S at hS hle ⊢
  induction S using EReal.rec with
  | bot => exact absurd hS (by simp)
  | top =>
    refine ⟨0, ?_⟩
    rw [EReal.top_mul_coe_of_pos hκ, EReal.top_add_coe, Ideal.rsqrt_top]
    simp
  | coe r =>
    have hr : 0 ≤ r := EReal.coe_nonneg.mp hS
    have hp : 0 < r * κ + ε := by positivity
    rw [← EReal.coe_mul, ← EReal.coe_add, Ideal.rsqrt_coe, if_neg (not_lt.mpr hp.le), if_neg hp.ne']
    generalize v c = y at hle ⊢
    induction y using EReal.rec with
    | bot => exact absurd hle (by simp)
    | top => exact absurd hle (by simp)
    | coe x => exact ⟨x * (Real.sqrt (r * κ + ε))⁻¹ * γ, by rw [EReal.coe_mul, EReal.coe_mul]⟩

/-- With real scores, the quotient by the weights' sum may be taken of each weight. -/
theorem mix_eq (s v : Fin 256 → EReal) (hs : ∀ n, ∃ r : ℝ, s n = (r : EReal)) :
    mix s v = ∑ n, v n * Ideal.div (weight s n) (∑ n, weight s n) := by
  obtain ⟨i, -, hi⟩ := Finset.exists_mem_eq_sup (Finset.univ : Finset (Fin 256)) ⟨0, Finset.mem_univ _⟩ s
  choose r hr using hs
  have hw : ∀ n, weight s n = ((Real.exp (r n - r i) : ℝ) : EReal) := fun n => by
    unfold weight top
    rw [Cert.Att.fold_max_eq, hi, hr, hr, ← EReal.coe_sub, Ideal.exp_coe]
  have hW : ∑ n, weight s n = ((∑ n, Real.exp (r n - r i) : ℝ) : EReal) := by
    rw [Cert.Att.coe_sum]; exact Finset.sum_congr rfl fun n _ => hw n
  have hpos : 0 < ∑ n, Real.exp (r n - r i) := Finset.sum_pos (fun n _ => Real.exp_pos _) ⟨0, Finset.mem_univ _⟩
  unfold mix
  rw [hW]
  simp only [Ideal.div_coe hpos.ne']
  rw [mul_comm, Cert.Att.coe_mul_sum _ (by positivity)]
  refine Finset.sum_congr rfl fun n _ => ?_
  rw [mul_comm (weight s n) (v n), mul_left_comm, mul_comm (weight s n)]

/-- The scale may be taken of the sum. -/
theorem score_eq (q : Fin 512 → EReal) (g : Fin 128 → EReal) (k : Fin 256 → Fin 512 → EReal) (h : Fin 4) (n : Fin 256) :
    score q g k h n = (∑ d, norm k128 (fun d => q (lane h d)) g d * k n (lane h d)) * scale := by
  obtain ⟨r, hr, e⟩ := scale_pos
  unfold score query
  rw [e, mul_comm, Cert.Att.coe_mul_sum _ hr.le]
  refine Finset.sum_congr rfl fun d _ => ?_
  rw [mul_comm _ (r : EReal), mul_assoc]

/-- With real keys and query gains the scores are real. -/
theorem score_real (q : Fin 512 → EReal) (g : Fin 128 → EReal) (k : Fin 256 → Fin 512 → EReal) (hg : ∀ d, ∃ r : ℝ, g d = (r : EReal))
    (hk : ∀ n j, ∃ r : ℝ, k n j = (r : EReal)) (h : Fin 4) (n : Fin 256) : ∃ r : ℝ, score q g k h n = (r : EReal) := by
  obtain ⟨σ, -, e⟩ := scale_pos
  choose a ha using fun d => norm_real (fun d => q (lane h d)) g hg d
  choose b hb using fun d => hk n (lane h d)
  refine ⟨(∑ d, a d * b d) * σ, ?_⟩
  rw [score_eq, e, EReal.coe_mul, Cert.Att.coe_sum]
  simp only [ha, hb, EReal.coe_mul]

section Reference

open Cert.Reference2Ideal Cert.Reference2Ideal.Gen Cert.Reference2Ideal.Read

variable (x0 : FVec Ideal S16x2048x1024 .f32) (x1 x2 : FVec Ideal S16x2048x512 .f32) (x3 x4 : FVec Ideal S16x256x4x128 .f32)
  (x5 : FVec Ideal S1024x1024 .f32) (x6 : FVec Ideal S1024 .f32) (x7 : FVec Ideal S1024x512 .f32) (x8 : FVec Ideal S128 .f32)
  (x9 : FVec Ideal S512x1024 .f32) (x10 : FVec Ideal S1024 .f32) (x11 : FVec Ideal S1024x4096 .f32) (x12 : FVec Ideal S4096x1024 .f32)
  (hk : ∀ i, ((((x3 i : EReal)).toReal : ℝ) : EReal) = x3 i) (hg : ∀ i, ((((x8 i : EReal)).toReal : ℝ) : EReal) = x8 i)

include hk hg

/-- The reference's row after the cross attention is the kernel's. -/
theorem ref_crow (b : Fin 16) (s : Fin 2048) (e : Fin 1024) :
    val_main_v49 (F := Ideal) x0 x1 x2 x3 x4 x5 x6 x7 x8 x9 (ix3 b s e) = crow x0 x1 x2 x3 x4 x5 x6 x7 x8 x9 b s e := by
  have hm : (fun c => val_main_v2 (F := Ideal) x0 x1 x2 x5 (ix3 b s c)) = xrow x0 x1 x2 x5 b s := funext fun c => ref_mixed x0 x1 x2 x5 b s c
  have hq : (fun j => val_main_v16 (F := Ideal) x0 x1 x2 x5 x6 x7 (ix3 b s j))
      = proj (xrow x0 x1 x2 x5 b s) (fun c => x6 (ix1 c)) (fun c j => x7 (ix2 c j)) := funext fun j => by
    rw [ref_proj]
    simp only [ref_norm, hm]
    rfl
  rw [ref_crossed, hm]
  unfold crow
  refine congrArg (fun o => crossed _ o _ e) (funext fun j => ?_)
  have ej : j = lane ⟨j.val / 128, by omega⟩ ⟨j.val % 128, by omega⟩ := Fin.ext (by show j.val = 128 * (j.val / 128) + j.val % 128; omega)
  generalize (⟨j.val / 128, by omega⟩ : Fin 4) = h at ej
  generalize (⟨j.val % 128, by omega⟩ : Fin 128) = d at ej
  subst ej
  have eh : ∀ d : Fin 128, (⟨(lane h d).val / 128, by omega⟩ : Fin 4) = h := fun d => Fin.ext (by show (128 * h.val + d.val) / 128 = h.val; omega)
  have ed : ∀ d : Fin 128, (⟨(lane h d).val % 128, by omega⟩ : Fin 128) = d := fun d => Fin.ext (by show (128 * h.val + d.val) % 128 = d.val; omega)
  have hsc : (fun n => val_main_v33 (F := Ideal) x0 x1 x2 x3 x5 x6 x7 x8 (ix4 b h s n))
      = score (proj (xrow x0 x1 x2 x5 b s) (fun c => x6 (ix1 c)) (fun c j => x7 (ix2 c j))) (fun d => x8 (ix1 d))
        (fun n j => x3 (ix4 b n ⟨j.val / 128, by omega⟩ ⟨j.val % 128, by omega⟩)) h := funext fun n => by
    rw [ref_scores, score_eq]
    simp only [ref_query, eh, ed]
    simp only [← hq]
  rw [ref_heads, heads_lane, mix_eq _ _ fun n => score_real _ _ _ (fun d => ⟨_, (hg _).symm⟩) (fun n j => ⟨_, (hk _).symm⟩) h n]
  simp only [ref_weights, hsc, eh, ed]

/-- The reference's row is the kernel's. -/
theorem ref_frow (b : Fin 16) (s : Fin 2048) (e : Fin 1024) :
    val_main_v67 (F := Ideal) x0 x1 x2 x3 x4 x5 x6 x7 x8 x9 x10 x11 x12 (ix3 b s e) = frow x0 x1 x2 x3 x4 x5 x6 x7 x8 x9 x10 x11 x12 b s e := by
  rw [ref_fed]
  exact congrArg (fun r => fed r _ _ _ e) (funext fun c => ref_crow x0 x1 x2 x3 x4 x5 x6 x7 x8 x9 hk hg b s c)

end Reference

/-- Finite keys and query gains are real at every index. -/
theorem finite_real (x0 : FVec Ideal Cert.Kernel2Ideal.S16x2048x1024 .f32) (x1 x2 : FVec Ideal Cert.Kernel2Ideal.S16x2048x512 .f32) (x3 x4 : FVec Ideal Cert.Kernel2Ideal.S16x256x4x128 .f32)
    (x5 : FVec Ideal Cert.Kernel2Ideal.S1024x1024 .f32) (x6 : FVec Ideal Cert.Kernel2Ideal.S1024 .f32) (x7 : FVec Ideal Cert.Kernel2Ideal.S1024x512 .f32) (x8 : FVec Ideal Cert.Kernel2Ideal.S128 .f32)
    (x9 : FVec Ideal Cert.Kernel2Ideal.S512x1024 .f32) (x10 : FVec Ideal Cert.Kernel2Ideal.S1024 .f32) (x11 : FVec Ideal Cert.Kernel2Ideal.S1024x4096 .f32) (x12 : FVec Ideal Cert.Kernel2Ideal.S4096x1024 .f32)
    (h : Cert.Pre_finite_scores.fn (F := Ideal) x0 x1 x2 x3 x4 x5 x6 x7 x8 x9 x10 x11 x12 = fun _ => 1#1) :
    (∀ i, (((x3 i : EReal).toReal : ℝ) : EReal) = x3 i) ∧ ∀ i, (((x8 i : EReal).toReal : ℝ) : EReal) = x8 i := by
  have e := congrFun h ix0
  unfold Cert.Pre_finite_scores.fn at e
  obtain ⟨e1, e2⟩ := IntOp.andi_eq_one.1 e
  haveI : Subsingleton Cert.Pre_finite_scores.S_.Idx := ⟨fun a b => funext fun x => x.elim0⟩
  have inf : Ideal.ofBits .f32 0x7F800000#32 = ⊤ := by simp [Ideal.ofBits, Ideal.ieee]
  refine ⟨fun i => ?_, fun i => ?_⟩
  · have := Host.reduce_andi_all _ _ _ _ _ e1 i
    refine Cert.Att.real_of_abs_lt ?_
    rw [← inf]
    exact this
  · have := Host.reduce_andi_all _ _ _ _ _ e2 i
    refine Cert.Att.real_of_abs_lt ?_
    rw [← inf]
    exact this

open Cert.Kernel2Ideal Cert.Kernel2Ideal.Gen in
/-- The kernel's result array is the reference's function of the arguments. -/
theorem result_eq (m : (ℓ : Loc nD τ sig) → Buf (Elt Ideal) ℓ) (c : Dev nD)
    (x0 : FVec Ideal S16x2048x1024 .f32) (x1 x2 : FVec Ideal S16x2048x512 .f32) (x3 x4 : FVec Ideal S16x256x4x128 .f32)
    (x5 : FVec Ideal S1024x1024 .f32) (x6 : FVec Ideal S1024 .f32) (x7 : FVec Ideal S1024x512 .f32) (x8 : FVec Ideal S128 .f32)
    (x9 : FVec Ideal S512x1024 .f32) (x10 : FVec Ideal S1024 .f32) (x11 : FVec Ideal S1024x4096 .f32) (x12 : FVec Ideal S4096x1024 .f32)
    (h0 : m ((c : Thread nD τ).loc main_arg0) = x0) (h1 : m ((c : Thread nD τ).loc main_arg1) = x1) (h2 : m ((c : Thread nD τ).loc main_arg2) = x2)
    (h3 : m ((c : Thread nD τ).loc main_arg3) = x3) (h4 : m ((c : Thread nD τ).loc main_arg4) = x4) (h5 : m ((c : Thread nD τ).loc main_arg5) = x5)
    (h6 : m ((c : Thread nD τ).loc main_arg6) = x6) (h7 : m ((c : Thread nD τ).loc main_arg7) = x7) (h8 : m ((c : Thread nD τ).loc main_arg8) = x8)
    (h9 : m ((c : Thread nD τ).loc main_arg9) = x9) (h10 : m ((c : Thread nD τ).loc main_arg10) = x10) (h11 : m ((c : Thread nD τ).loc main_arg11) = x11)
    (h12 : m ((c : Thread nD τ).loc main_arg12) = x12)
    (hp : Cert.Pre_finite_scores.fn (F := Ideal) x0 x1 x2 x3 x4 x5 x6 x7 x8 x9 x10 x11 x12 = fun _ => 1#1) :
    ((dats m 0 c).arrAt 13 cfg0.N : FVec Ideal S32768x1024 .f32)
      = Cert.Reference2Ideal.Read.val_main_v68 (F := Ideal) x0 x1 x2 x3 x4 x5 x6 x7 x8 x9 x10 x11 x12 := by
  obtain ⟨hk, hg⟩ := finite_real x0 x1 x2 x3 x4 x5 x6 x7 x8 x9 x10 x11 x12 hp
  rw [result m c, h0, h1, h2, h3, h4, h5, h6, h7, h8, h9, h10, h11, h12]
  funext j
  have h0 : (j 0).val < 32768 := (j 0).isLt
  have ej : j = ix2 ⟨2048 * ((j 0).val / 2048) + (j 0).val % 2048, by omega⟩ (j 1) := by
    funext x
    match x with
    | ⟨0, _⟩ => exact Fin.ext (by show (j 0).val = 2048 * ((j 0).val / 2048) + (j 0).val % 2048; omega)
    | ⟨1, _⟩ => rfl
  refine Eq.trans ?_ (congrArg (Cert.Reference2Ideal.Read.val_main_v68 (F := Ideal) x0 x1 x2 x3 x4 x5 x6 x7 x8 x9 x10 x11 x12) ej.symm)
  refine Eq.trans ?_ (ref_flat x0 x1 x2 x3 x4 x5 x6 x7 x8 x9 x10 x11 x12 ⟨(j 0).val / 2048, by omega⟩ ⟨(j 0).val % 2048, by omega⟩ (j 1)).symm
  exact (ref_frow x0 x1 x2 x3 x4 x5 x6 x7 x8 x9 x10 x11 x12 hk hg _ _ (j 1)).symm

end Cert.Back
-- ==== Proof.MemBlocks.lean ====
/- The memory call's body at a grid point: the memory's rows normalised and projected, the first half of the lanes normalised
   head by head into the keys, the second half kept as the values. -/
module

public import proofs.«01_k».proof.Proof.Gen.Kernel3Ideal.Value
public import proofs.«01_k».proof.Proof.BackMath
public import Idealize.ShloMosaic.Lib.Claim
public import Idealize.ShloMosaic.Lib.Pointwise
public import Idealize.ShloMosaic.Lib.WritesUnit
public import Idealize.ShloMosaic.Lib.Pipeline.ValueKit.Point

@[expose] public section

set_option maxRecDepth 16384

noncomputable section

namespace Cert.Mem

open Cert.Kernel3Ideal Cert.Kernel3Ideal.Gen Cert.Back Idealize.ShloMosaic Idealize.ShloMosaic.TcCoe Idealize.ShloMosaic.Tactic

/-- The projection of a normalised row of the memory. -/
def both (x g : Fin 1024 → EReal) (w : Fin 1024 → Fin 1024 → EReal) (l : Fin 1024) : EReal := ∑ c, Back.norm k1024 x g c * w c l

/-- A row's keys: each head's 128 lanes of the projection's first half, normalised. -/
def keys (y : Fin 1024 → EReal) (g : Fin 128 → EReal) (j : Fin 512) : EReal :=
  Back.norm k128 (fun d => y ⟨128 * (j.val / 128) + d.val, by omega⟩) g ⟨j.val % 128, by omega⟩

/-- A row's values: the projection's second half. -/
def vals (y : Fin 1024 → EReal) (j : Fin 512) : EReal := y ⟨512 + j.val, by omega⟩

/-- The projection as the body computes it. -/
theorem pay3_apply (x : Vec Ideal S256x1024 .f32) (g : Vec Ideal S1x1024 .f32) (w : Vec Ideal S1024x1024 .bf16) (a : Fin 256) (l : Fin 1024) :
    k0_pay3 (F := Ideal) x g w (ix2 a l) = both (fun c => x (ix2 a c)) (fun c => g (ix2 0 c)) (fun c l => w (ix2 c l)) l := by
  unfold k0_pay3 both Back.norm
  pointwise

/-- The first head's keys. -/
theorem pay4_apply (x : Vec Ideal S256x1024 .f32) (g : Vec Ideal S1x1024 .f32) (w : Vec Ideal S1024x1024 .bf16) (q : Vec Ideal S1x128 .f32)
    (a : Fin 256) (d : Fin 128) :
    k0_pay4 (F := Ideal) x g w q (ix2 a d)
      = Back.norm k128 (fun d => k0_pay3 (F := Ideal) x g w (ix2 a ⟨d.val, by omega⟩)) (fun d => q (ix2 0 d)) d := by
  unfold k0_pay4 Back.norm
  generalize k0_pay3 (F := Ideal) x g w = y
  pointwise

/-- The second head's keys. -/
theorem pay6_apply (x : Vec Ideal S256x1024 .f32) (g : Vec Ideal S1x1024 .f32) (w : Vec Ideal S1024x1024 .bf16) (q : Vec Ideal S1x128 .f32)
    (a : Fin 256) (d : Fin 128) :
    k0_pay6 (F := Ideal) (k0_pay5 (F := Ideal) x g w) q (ix2 a d)
      = Back.norm k128 (fun d => k0_pay3 (F := Ideal) x g w (ix2 a ⟨128 + d.val, by omega⟩)) (fun d => q (ix2 0 d)) d := by
  unfold k0_pay6 k0_pay5 Back.norm
  generalize k0_pay3 (F := Ideal) x g w = y
  pointwise

/-- The third head's keys. -/
theorem pay7_apply (y : FVec Ideal S256x1024 .f32) (q : Vec Ideal S1x128 .f32) (a : Fin 256) (d : Fin 128) :
    k0_pay7 (F := Ideal) y q (ix2 a d) = Back.norm k128 (fun d => y (ix2 a ⟨256 + d.val, by omega⟩)) (fun d => q (ix2 0 d)) d := by
  unfold k0_pay7 Back.norm
  pointwise

/-- The fourth head's keys. -/
theorem pay1_apply (y : FVec Ideal S256x1024 .f32) (q : Vec Ideal S1x128 .f32) (a : Fin 256) (d : Fin 128) :
    k0_pay1 (F := Ideal) (k0_pay8 y) (k0_pay9 q) (k0_pay10 y) (k0_pay11 (F := Ideal)) (ix2 a d)
      = Back.norm k128 (fun d => y (ix2 a ⟨384 + d.val, by omega⟩)) (fun d => q (ix2 0 d)) d := by
  unfold k0_pay1 k0_pay10 k0_pay8 k0_pay9 k0_pay11 Back.norm
  pointwise

/-- The values. -/
theorem pay2_apply (y : FVec Ideal S256x1024 .f32) (a : Fin 256) (j : Fin 512) :
    k0_pay2 (F := Ideal) y (ix2 a j) = y (ix2 a ⟨512 + j.val, by omega⟩) := by
  unfold k0_pay2
  pointwise

/-- Zero offsets, as spelt by the loads. -/
theorem off2 : (![0, 0] : Fin 2 → ℕ) = fun _ => 0 := by
  funext i
  match i with
  | ⟨0, _⟩ => rfl
  | ⟨1, _⟩ => rfl

/-- An index of a block of two axes from its coordinates. -/
theorem eq_ix2 {n m : ℕ} (x : (⟨2, ![n, m]⟩ : Shape).Idx) : x = ix2 (⟨(x 0).val, (x 0).isLt⟩ : Fin n) (⟨(x 1).val, (x 1).isLt⟩ : Fin m) := by
  funext i
  match i with
  | ⟨0, _⟩ => rfl
  | ⟨1, _⟩ => rfl

/-- A head's keys sit at the head's lanes. -/
theorem keys_at (y : Fin 1024 → EReal) (g : Fin 128 → EReal) (h : ℕ) (hh : h < 4) (d : Fin 128) (j : Fin 512) (hj : j.val = 128 * h + d.val)
    (f : Fin 128 → EReal) (hf : ∀ d : Fin 128, f d = y ⟨128 * h + d.val, by omega⟩) : Back.norm k128 f g d = keys y g j := by
  have e1 : j.val / 128 = h := by omega
  have e2 : (⟨j.val % 128, by omega⟩ : Fin 128) = d := Fin.ext (by show j.val % 128 = d.val; omega)
  unfold keys
  rw [e2, funext hf]
  simp only [e1]

/-- The keys of a block of rows, from the rows' projections. -/
def keyBlock (Y : Fin 256 → Fin 1024 → EReal) (g : Fin 128 → EReal) : Vec Ideal S256x512 .bf16 :=
  fun y => keys (Y ⟨(y 0).val, (y 0).isLt⟩) g ⟨(y 1).val, (y 1).isLt⟩

/-- A head's store is the head's part of the block of keys. -/
theorem piece (Y : Fin 256 → Fin 1024 → EReal) (g : Fin 128 → EReal) (P : Vec Ideal S256x128 .bf16) (h o : ℕ) (hh : h < 4) (ho : o = 128 * h)
    (inb : ∀ a, (![0, o] : Fin 2 → ℕ) a + S256x128.size a ≤ S256x512.size a)
    (hP : ∀ (a : Fin 256) (d : Fin 128), P (ix2 a d) = Back.norm k128 (fun d => Y a ⟨o + d.val, by omega⟩) g d) (x : S256x128.Idx) :
    P x = keyBlock Y g ((Rect.unit (s := S256x512) ![0, o] S256x128.size inb).emb x) := by
  subst ho
  refine (congrArg P (eq_ix2 x)).trans ((hP _ _).trans ?_)
  have e0 : (⟨((Rect.unit (s := S256x512) ![0, 128 * h] S256x128.size inb).emb x 0).val, ((Rect.unit (s := S256x512) ![0, 128 * h] S256x128.size inb).emb x 0).isLt⟩ : Fin 256)
      = ⟨(x 0).val, (x 0).isLt⟩ := Fin.ext (by show 0 + 1 * (x 0).val = (x 0).val; omega)
  refine Eq.trans ?_ (congrArg (fun a => keys (Y a) g _) e0.symm)
  exact keys_at _ _ h hh _ _ (by show 128 * h + 1 * (x 1).val = 128 * h + (x 1).val; omega) _ fun d => rfl

/-- The keys' block after the body. -/
theorem out_keys (x0 : Vec Ideal S256x1024 .f32) (x1 : Vec Ideal S1x1024 .f32) (x2 : Vec Ideal S1024x1024 .bf16) (x3 : Vec Ideal S1x128 .f32)
    (a : Fin 256) (j : Fin 512) :
    out0_4 (F := Ideal) x0 x1 x2 x3 (ix2 a j)
      = keys (both (fun c => x0 (ix2 a c)) (fun c => x1 (ix2 0 c)) (fun c l => x2 (ix2 c l))) (fun d => x3 (ix2 0 d)) j := by
  unfold_out out0_4
  simp only [View.ld_unit_zero (S := S256x1024) off2, View.ld_unit_zero (S := S1x1024) off2, View.ld_unit_zero (S := S1024x1024) off2, View.ld_unit_zero (S := S1x128) off2]
  refine View.canon_apply_of_pieces (Val := Elt Ideal)
    (keyBlock (fun a => both (fun c => x0 (ix2 a c)) (fun c => x1 (ix2 0 c)) (fun c l => x2 (ix2 c l))) (fun d => x3 (ix2 0 d))) _ ?_ (ix2 a j) (cover0_4 _ _ _ _ _)
  intro pc hpc
  rcases List.mem_cons.mp hpc with rfl | hpc
  · refine piece _ _ _ 3 384 (by omega) (by omega) inb_S256x512_S256x128_0_384 fun a d => ?_
    refine (pay1_apply _ _ a d).trans ?_
    simp only [pay3_apply]
  rcases List.mem_cons.mp hpc with rfl | hpc
  · refine piece _ _ _ 2 256 (by omega) (by omega) inb_S256x512_S256x128_0_256 fun a d => ?_
    refine (pay7_apply _ _ a d).trans ?_
    simp only [pay3_apply]
  rcases List.mem_cons.mp hpc with rfl | hpc
  · refine piece _ _ _ 1 128 (by omega) (by omega) inb_S256x512_S256x128_0_128 fun a d => ?_
    refine (pay6_apply _ _ _ _ a d).trans ?_
    simp only [pay3_apply]
  rcases List.mem_cons.mp hpc with rfl | hpc
  · refine piece _ _ _ 0 0 (by omega) (by omega) inb_S256x512_S256x128_0_0 fun a d => ?_
    refine (pay4_apply _ _ _ _ a d).trans ?_
    simp only [pay3_apply, Nat.zero_add]
  nomatch hpc

/-- The values' block after the body. -/
theorem out_vals (x0 : Vec Ideal S256x1024 .f32) (x1 : Vec Ideal S1x1024 .f32) (x2 : Vec Ideal S1024x1024 .bf16) (x3 : Vec Ideal S1x128 .f32)
    (a : Fin 256) (j : Fin 512) :
    out0_5 (F := Ideal) x0 x1 x2 x3 (ix2 a j) = vals (both (fun c => x0 (ix2 a c)) (fun c => x1 (ix2 0 c)) (fun c l => x2 (ix2 c l))) j := by
  unfold_out out0_5
  simp only [View.ld_unit_zero (S := S256x1024) off2, View.ld_unit_zero (S := S1x1024) off2, View.ld_unit_zero (S := S1024x1024) off2]
  rw [View.canon_unit_zero (S := S256x512) off2, pay2_apply, pay3_apply]
  rfl

end Cert.Mem
-- ==== Proof.MemRef.lean ====
/- The memory call's reference read at an index: the same row functions. -/
module

public import proofs.«01_k».proof.Proof.Gen.Reference3Ideal.Read
public import proofs.«01_k».proof.Proof.MemBlocks
public import Idealize.ShloMosaic.Lib.Pointwise

@[expose] public section

set_option maxRecDepth 16384

noncomputable section

namespace Cert.Mem

open Cert.Reference3Ideal Cert.Reference3Ideal.Gen Cert.Reference3Ideal.Read Cert.Back Idealize.ShloMosaic Idealize.ShloMosaic.TcCoe Idealize.ShloMosaic.Tactic

variable (x0 : FVec Ideal S16x256x1024 .f32) (x1 : FVec Ideal S1024 .f32) (x2 : FVec Ideal S1024x1024 .f32) (x3 : FVec Ideal S128 .f32)

/-- The reference's normalised memory. -/
theorem ref_norm (b : Fin 16) (n : Fin 256) (c : Fin 1024) :
    val_main_v12 (F := Ideal) x0 x1 (ix3 b n c) = Back.norm k1024 (fun c => x0 (ix3 b n c)) (fun c => x1 (ix1 c)) c := by
  unfold val_main_v12 val_main_v11 val_main_v10 val_main_v9 val_main_v8 val_main_v7 val_main_v6 val_main_v5 val_main_v4 val_main_v3 val_main_v2 val_main_v1 val_main_v0 val_main_cst val_main_cst_0 val_main_cst_1
  unfold Back.norm
  pointwise
  rw [div1024]

/-- Its projection. -/
theorem ref_both (b : Fin 16) (n : Fin 256) (l : Fin 1024) :
    val_main_v13 (F := Ideal) x0 x1 x2 (ix3 b n l)
      = both (fun c => x0 (ix3 b n c)) (fun c => x1 (ix1 c)) (fun c l => x2 (ix2 c l)) l := by
  have e := ref_norm x0 x1 b n
  unfold val_main_v13 both
  generalize val_main_v12 (F := Ideal) x0 x1 = w at e ⊢
  simp only [← e]
  pointwise

/-- Its keys before their norm: the projection's first half, head by head. -/
theorem ref_half0 (b : Fin 16) (n : Fin 256) (h : Fin 4) (d : Fin 128) :
    val_main_v16 (F := Ideal) x0 x1 x2 (ix4 b n h d) = val_main_v13 (F := Ideal) x0 x1 x2 (ix3 b n ⟨128 * h.val + d.val, by omega⟩) := by
  unfold val_main_v16 val_main_v15 val_main_v14
  generalize val_main_v13 (F := Ideal) x0 x1 x2 = w
  pointwise
  exact congrArg (fun l => w (ix3 b n l)) (Fin.ext (by show h.val * 128 + d.val = 128 * h.val + d.val; omega))

/-- Its values: the second half. -/
theorem ref_half1 (b : Fin 16) (n : Fin 256) (h : Fin 4) (d : Fin 128) :
    val_main_v31 (F := Ideal) x0 x1 x2 (ix4 b n h d) = val_main_v13 (F := Ideal) x0 x1 x2 (ix3 b n ⟨512 + (128 * h.val + d.val), by omega⟩) := by
  unfold val_main_v31 val_main_v30 val_main_v14
  generalize val_main_v13 (F := Ideal) x0 x1 x2 = w
  pointwise
  exact congrArg (fun l => w (ix3 b n l)) (Fin.ext (by show 512 + h.val * 128 + d.val = 512 + (128 * h.val + d.val); omega))

/-- Its keys. -/
theorem ref_keys (b : Fin 16) (n : Fin 256) (h : Fin 4) (d : Fin 128) :
    val_main_v29 (F := Ideal) x0 x1 x2 x3 (ix4 b n h d)
      = Back.norm k128 (fun d => val_main_v16 (F := Ideal) x0 x1 x2 (ix4 b n h d)) (fun d => x3 (ix1 d)) d := by
  unfold val_main_v29 val_main_v28 val_main_v27 val_main_v26 val_main_v25 val_main_v24 val_main_v23 val_main_v22 val_main_v21 val_main_v20 val_main_v19 val_main_v18 val_main_v17 val_main_cst_2 val_main_cst_3 val_main_cst_4
  generalize val_main_v16 (F := Ideal) x0 x1 x2 = w
  unfold Back.norm
  pointwise
  rw [div128]

/-- The keys of all rows, one after another. -/
theorem ref_flat_keys (b : Fin 16) (n : Fin 256) (h : Fin 4) (d : Fin 128) :
    val_main_v33 (F := Ideal) x0 x1 x2 x3 (ix2 ⟨256 * b.val + n.val, by omega⟩ (lane h d)) = val_main_v29 (F := Ideal) x0 x1 x2 x3 (ix4 b n h d) := by
  unfold val_main_v33 val_main_v32
  generalize val_main_v29 (F := Ideal) x0 x1 x2 x3 = w
  pointwise
  exact congrArg₂ (fun h d => w (ix4 b n h d)) (Fin.ext (by show (128 * h.val + d.val) / 128 = h.val; omega)) (Fin.ext (by show (128 * h.val + d.val) % 128 = d.val; omega))

/-- The values of all rows, one after another. -/
theorem ref_flat_vals (b : Fin 16) (n : Fin 256) (h : Fin 4) (d : Fin 128) :
    val_main_v35 (F := Ideal) x0 x1 x2 (ix2 ⟨256 * b.val + n.val, by omega⟩ (lane h d)) = val_main_v31 (F := Ideal) x0 x1 x2 (ix4 b n h d) := by
  unfold val_main_v35 val_main_v34
  generalize val_main_v31 (F := Ideal) x0 x1 x2 = w
  pointwise
  exact congrArg₂ (fun h d => w (ix4 b n h d)) (Fin.ext (by show (128 * h.val + d.val) / 128 = h.val; omega)) (Fin.ext (by show (128 * h.val + d.val) % 128 = d.val; omega))

end Cert.Mem
-- ==== Proof.MemJoin.lean ====
/- The memory call's two result arrays are the reference's, for all arguments: each grid point writes the keys and the values
   of one batch entry's memory rows. -/
module

public import proofs.«01_k».proof.Proof.MemRef

@[expose] public section

set_option maxRecDepth 16384

noncomputable section

namespace Cert.Mem

open Cert.Back Idealize.ShloMosaic Idealize.ShloMosaic.TcCoe Idealize.ShloMosaic.Tactic

/-- A memory row's projection, from the arguments. -/
def prow (x0 : FVec Ideal Cert.Kernel3Ideal.S16x256x1024 .f32) (x1 : FVec Ideal Cert.Kernel3Ideal.S1024 .f32) (x2 : FVec Ideal Cert.Kernel3Ideal.S1024x1024 .f32)
    (b : Fin 16) (n : Fin 256) : Fin 1024 → EReal :=
  both (fun c => x0 (ix3 b n c)) (fun c => x1 (ix1 c)) (fun c l => x2 (ix2 c l))

section Kernel

open Cert.Kernel3Ideal Cert.Kernel3Ideal.Gen Cert.Kernel3Ideal.Value

variable (m : (ℓ : Loc nD τ sig) → Buf (Elt Ideal) ℓ)

/-- The blocks a grid point takes and writes. -/
theorem rows_index (T : Fin cfg0.N) : (win0_0.index T 0 = T.val ∧ win0_0.index T 1 = 0) ∧ (win0_4.index T 0 = T.val ∧ win0_4.index T 1 = 0)
    ∧ (win0_5.index T 0 = T.val ∧ win0_5.index T 1 = 0) ∧ ∀ a, win0_1.index T a = 0 ∧ win0_2.index T a = 0 ∧ win0_3.index T a = 0 :=
  (by decide +kernel : ∀ T : Fin grid0.N, (win0_0.index T 0 = T.val ∧ win0_0.index T 1 = 0) ∧ (win0_4.index T 0 = T.val ∧ win0_4.index T 1 = 0)
    ∧ (win0_5.index T 0 = T.val ∧ win0_5.index T 1 = 0) ∧ ∀ a, win0_1.index T a = 0 ∧ win0_2.index T a = 0 ∧ win0_3.index T a = 0) T

/-- The grid has 16 points. -/
theorem lt16 (T : Fin cfg0.N) : T.val < 16 := T.isLt

/-- An entry of the block of memory rows. -/
theorem blk_x (c : Dev nD) (T : Fin cfg0.N) (n : Fin 256) (l : Fin 1024) (b : Fin 16) (hb : b.val = T.val) :
    (iblk m c 0 T : Vec Ideal S256x1024 .f32) (ix2 n l) = (m ((c : Thread nD τ).loc main_arg0) : FVec Ideal S16x256x1024 .f32) (ix3 b n l) := by
  blk_ext! [iblk, V, rows_index T]

/-- The memory norm's gain. -/
theorem blk_g (c : Dev nD) (T : Fin cfg0.N) (l : Fin 1024) :
    (iblk m c 1 T : Vec Ideal S1x1024 .f32) (ix2 0 l) = (m ((c : Thread nD τ).loc main_arg1) : FVec Ideal S1024 .f32) (ix1 l) := by
  blk_ext! [iblk, V, rows_index T]

/-- The projection's weights. -/
theorem blk_w (c : Dev nD) (T : Fin cfg0.N) (a l : Fin 1024) :
    (iblk m c 2 T : Vec Ideal S1024x1024 .bf16) (ix2 a l) = (m ((c : Thread nD τ).loc main_arg2) : FVec Ideal S1024x1024 .f32) (ix2 a l) := by
  blk_ext! [iblk, V, rows_index T]

/-- The key norm's gain. -/
theorem blk_q (c : Dev nD) (T : Fin cfg0.N) (l : Fin 128) :
    (iblk m c 3 T : Vec Ideal S1x128 .f32) (ix2 0 l) = (m ((c : Thread nD τ).loc main_arg3) : FVec Ideal S128 .f32) (ix1 l) := by
  blk_ext! [iblk, V, rows_index T]

/-- The kernel's array of keys. -/
theorem result_keys (c : Dev nD) : ((dats m 0 c).arrAt 4 cfg0.N : FVec Ideal S4096x512 .bf16)
    = fun i : S4096x512.Idx => keys (prow (m ((c : Thread nD τ).loc main_arg0)) (m ((c : Thread nD τ).loc main_arg1)) (m ((c : Thread nD τ).loc main_arg2))
        ⟨(i 0).val / 256, by have h : (i 0).val < 4096 := (i 0).isLt; omega⟩ ⟨(i 0).val % 256, by omega⟩)
        (fun d => (m ((c : Thread nD τ).loc main_arg3) : FVec Ideal S128 .f32) (ix1 d)) (i 1) := by
  refine (dats m 0 c).arrAt_eq_of_covers 4 _ (by decide +kernel) fun t hf y => ?_
  have h16 := lt16 t
  obtain ⟨e0, e1⟩ := (rows_index t).2.1
  blk_simp
  rw [after0_4]
  have h0 : (y 0).val < 256 := (y 0).isLt
  have h1 : (y 1).val < 512 := (y 1).isLt
  refine (congrArg (out0_4 (iblk m c 0 t) (iblk m c 1 t) (iblk m c 2 t) (iblk m c 3 t)) (eq_ix2 (n := 256) (m := 512) y)).trans ((out_keys _ _ _ _ _ _).trans ?_)
  have eb : (⟨(win0_4.index t 0 * 256 + (y 0).val) / 256, by rw [e0]; omega⟩ : Fin 16) = ⟨t.val, h16⟩ := Fin.ext (by show (win0_4.index t 0 * 256 + (y 0).val) / 256 = t.val; rw [e0]; omega)
  have en : (⟨(win0_4.index t 0 * 256 + (y 0).val) % 256, by omega⟩ : Fin 256) = ⟨(y 0).val, h0⟩ := Fin.ext (by show (win0_4.index t 0 * 256 + (y 0).val) % 256 = (y 0).val; omega)
  have e' : ((win0_4.blk t).view.emb y 1) = (⟨(y 1).val, h1⟩ : Fin 512) := Fin.ext (by show win0_4.index t 1 * 512 + 1 * (y 1).val = (y 1).val; rw [e1]; omega)
  refine Eq.trans ?_ (congrArg _ e'.symm)
  simp only [blk_x m c t _ _ ⟨t.val, h16⟩ rfl, blk_g m c t, blk_w m c t, blk_q m c t]
  exact (congrArg₂ (fun b n => keys (prow (m ((c : Thread nD τ).loc main_arg0)) (m ((c : Thread nD τ).loc main_arg1)) (m ((c : Thread nD τ).loc main_arg2)) b n)
    (fun d => (m ((c : Thread nD τ).loc main_arg3) : FVec Ideal S128 .f32) (ix1 d)) ⟨(y 1).val, h1⟩) eb en).symm

/-- The kernel's array of values. -/
theorem result_vals (c : Dev nD) : ((dats m 0 c).arrAt 5 cfg0.N : FVec Ideal S4096x512 .bf16)
    = fun i : S4096x512.Idx => vals (prow (m ((c : Thread nD τ).loc main_arg0)) (m ((c : Thread nD τ).loc main_arg1)) (m ((c : Thread nD τ).loc main_arg2))
        ⟨(i 0).val / 256, by have h : (i 0).val < 4096 := (i 0).isLt; omega⟩ ⟨(i 0).val % 256, by omega⟩) (i 1) := by
  refine (dats m 0 c).arrAt_eq_of_covers 5 _ (by decide +kernel) fun t hf y => ?_
  have h16 := lt16 t
  obtain ⟨e0, e1⟩ := (rows_index t).2.2.1
  blk_simp
  rw [after0_5]
  have h0 : (y 0).val < 256 := (y 0).isLt
  have h1 : (y 1).val < 512 := (y 1).isLt
  refine (congrArg (out0_5 (iblk m c 0 t) (iblk m c 1 t) (iblk m c 2 t) (iblk m c 3 t)) (eq_ix2 (n := 256) (m := 512) y)).trans ((out_vals _ _ _ _ _ _).trans ?_)
  have eb : (⟨(win0_5.index t 0 * 256 + (y 0).val) / 256, by rw [e0]; omega⟩ : Fin 16) = ⟨t.val, h16⟩ := Fin.ext (by show (win0_5.index t 0 * 256 + (y 0).val) / 256 = t.val; rw [e0]; omega)
  have en : (⟨(win0_5.index t 0 * 256 + (y 0).val) % 256, by omega⟩ : Fin 256) = ⟨(y 0).val, h0⟩ := Fin.ext (by show (win0_5.index t 0 * 256 + (y 0).val) % 256 = (y 0).val; omega)
  have e' : ((win0_5.blk t).view.emb y 1) = (⟨(y 1).val, h1⟩ : Fin 512) := Fin.ext (by show win0_5.index t 1 * 512 + 1 * (y 1).val = (y 1).val; rw [e1]; omega)
  refine Eq.trans ?_ (congrArg _ e'.symm)
  simp only [blk_x m c t _ _ ⟨t.val, h16⟩ rfl, blk_g m c t, blk_w m c t]
  exact (congrArg₂ (fun b n => vals (prow (m ((c : Thread nD τ).loc main_arg0)) (m ((c : Thread nD τ).loc main_arg1)) (m ((c : Thread nD τ).loc main_arg2)) b n)
    ⟨(y 1).val, h1⟩) eb en).symm

end Kernel

section Reference

open Cert.Reference3Ideal Cert.Reference3Ideal.Gen Cert.Reference3Ideal.Read

variable (x0 : FVec Ideal S16x256x1024 .f32) (x1 : FVec Ideal S1024 .f32) (x2 : FVec Ideal S1024x1024 .f32) (x3 : FVec Ideal S128 .f32)

/-- A flat index from its batch entry, row, head and lane. -/
theorem flat (j : S4096x512.Idx) : j = ix2 (⟨256 * ((j 0).val / 256) + (j 0).val % 256, by have h : (j 0).val < 4096 := (j 0).isLt; omega⟩ : Fin 4096)
    (lane ⟨(j 1).val / 128, by have h : (j 1).val < 512 := (j 1).isLt; omega⟩ ⟨(j 1).val % 128, by omega⟩) := by
  funext x
  match x with
  | ⟨0, _⟩ => exact Fin.ext (by show (j 0).val = 256 * ((j 0).val / 256) + (j 0).val % 256; omega)
  | ⟨1, _⟩ => exact Fin.ext (by show (j 1).val = 128 * ((j 1).val / 128) + (j 1).val % 128; omega)

/-- The reference's array of keys. -/
theorem ref_result_keys (j : S4096x512.Idx) : val_main_v33 (F := Ideal) x0 x1 x2 x3 j
    = keys (prow x0 x1 x2 ⟨(j 0).val / 256, by have h : (j 0).val < 4096 := (j 0).isLt; omega⟩ ⟨(j 0).val % 256, by omega⟩) (fun d => x3 (ix1 d)) (j 1) := by
  refine (congrArg (val_main_v33 (F := Ideal) x0 x1 x2 x3) (flat j)).trans ((ref_flat_keys x0 x1 x2 x3 ⟨(j 0).val / 256, by have h : (j 0).val < 4096 := (j 0).isLt; omega⟩ ⟨(j 0).val % 256, by omega⟩ _ _).trans ?_)
  rw [ref_keys]
  simp only [ref_half0, ref_both]
  rfl

/-- The reference's array of values. -/
theorem ref_result_vals (j : S4096x512.Idx) : val_main_v35 (F := Ideal) x0 x1 x2 j
    = vals (prow x0 x1 x2 ⟨(j 0).val / 256, by have h : (j 0).val < 4096 := (j 0).isLt; omega⟩ ⟨(j 0).val % 256, by omega⟩) (j 1) := by
  refine (congrArg (val_main_v35 (F := Ideal) x0 x1 x2) (flat j)).trans ((ref_flat_vals x0 x1 x2 ⟨(j 0).val / 256, by have h : (j 0).val < 4096 := (j 0).isLt; omega⟩ ⟨(j 0).val % 256, by omega⟩ _ _).trans ?_)
  rw [ref_half1, ref_both]
  refine congrArg (prow x0 x1 x2 _ _) (Fin.ext ?_)
  show 512 + (128 * ((j 1).val / 128) + (j 1).val % 128) = 512 + (j 1).val
  omega

end Reference

open Cert.Kernel3Ideal Cert.Kernel3Ideal.Gen in
/-- Both result arrays are the reference's functions of the arguments. -/
theorem result_eq (m : (ℓ : Loc nD τ sig) → Buf (Elt Ideal) ℓ) (c : Dev nD)
    (x0 : FVec Ideal S16x256x1024 .f32) (x1 : FVec Ideal S1024 .f32) (x2 : FVec Ideal S1024x1024 .f32) (x3 : FVec Ideal S128 .f32)
    (h0 : m ((c : Thread nD τ).loc main_arg0) = x0) (h1 : m ((c : Thread nD τ).loc main_arg1) = x1) (h2 : m ((c : Thread nD τ).loc main_arg2) = x2)
    (h3 : m ((c : Thread nD τ).loc main_arg3) = x3) :
    ((dats m 0 c).arrAt 4 cfg0.N : FVec Ideal S4096x512 .bf16) = Cert.Reference3Ideal.Read.val_main_v33 (F := Ideal) x0 x1 x2 x3
    ∧ ((dats m 0 c).arrAt 5 cfg0.N : FVec Ideal S4096x512 .bf16) = Cert.Reference3Ideal.Read.val_main_v35 (F := Ideal) x0 x1 x2 := by
  subst h0 h1 h2 h3
  exact ⟨(result_keys m c).trans (funext fun j => (ref_result_keys _ _ _ _ j).symm), (result_vals m c).trans (funext fun j => (ref_result_vals _ _ _ j).symm)⟩

end Cert.Mem
-- ==== Proof.lean ====
module

public import proofs.«01_k».proof.Defs
public import proofs.«01_k».proof.Proof.Join
public import Idealize.ShloMosaic.Lib.Claim
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Kernel2
public import proofs.«01_k».proof.Proof.Gen.Kernel3
public import proofs.«01_k».proof.Proof.Gen.Kernel2.Skeleton
public import proofs.«01_k».proof.Proof.Gen.Kernel3.Skeleton
public import proofs.«01_k».proof.Proof.Gen.Kernel2.Launch
public import proofs.«01_k».proof.Proof.Gen.Kernel3.Launch
public import proofs.«01_k».proof.Proof.Gen.Kernel2.Points
public import proofs.«01_k».proof.Proof.Gen.Kernel3.Points
public import proofs.«01_k».proof.Proof.Gen.Kernel2.Frame
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Skeleton
public import proofs.«01_k».proof.Proof.Gen.Kernel3Ideal.Skeleton
public import proofs.«01_k».proof.Proof.Gen.Kernel2Ideal.Launch
public import proofs.«01_k».proof.Proof.Gen.Kernel3Ideal.Launch
public import proofs.«01_k».proof.Proof.Gen.Kernel2Ideal.Points
public import proofs.«01_k».proof.Proof.Gen.Kernel3Ideal.Points
public import proofs.«01_k».proof.Proof.Gen.Kernel2Ideal.Frame
public import proofs.«01_k».proof.Proof.Gen.Kernel3Ideal.Frame
public import proofs.«01_k».proof.Proof.Gen.Kernel2Ideal.Value
public import proofs.«01_k».proof.Proof.Gen.Kernel3Ideal.Value
public import proofs.«01_k».proof.Proof.Gen.Reference2Ideal
public import proofs.«01_k».proof.Proof.Gen.Reference3Ideal
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Gen.Pre_finite_scores
public import proofs.«01_k».proof.Proof.BackJoin
public import proofs.«01_k».proof.Proof.MemJoin
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems (by decide) r.2⟩) (Cert.ReferenceIdeal.Value.run (F := Ideal) m g)

/-- The kernel's result is the reference's on finite queries and keys. -/
theorem algebraic [Cert.Pre_finite_qk.Facts] : algebraic_KernelIdeal_ReferenceIdeal_pre_finite_qk := by
  pair_intro
  · run_from Cert.KernelIdeal.Value.run_blocks m g
  · run_from Cert.ReferenceIdeal.Value.run m' g'
    obtain ⟨h0, h1, h2, h3⟩ := hagree c
    rw [Cert.ReferenceIdeal.Read.val_main_v38_eq, h0, h1, h2, h3]
    exact (Cert.Att.result_eq m c _ _ _ _ rfl rfl rfl rfl (hpre c)).symm

/-- The back call's reference ends with its arguments unchanged; it declares no semaphore. -/
theorem frame_reference2 : quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run (F := Ideal) m ρ)

/-- The back call's result is the reference's where the memory's keys and the query gains are finite. -/
theorem algebraic2 [Cert.Pre_finite_scores.Facts] : algebraic_Kernel2Ideal_Reference2Ideal_pre_finite_scores := by
  pair_intro
  · run_from Cert.Kernel2Ideal.Value.run_blocks m g
  · run_from Cert.Reference2Ideal.Value.run m' g'
    obtain ⟨h0, h1, h2, h3, h4, h5, h6, h7, h8, h9, h10, h11, h12⟩ := hagree c
    have h := Cert.Reference2Ideal.Read.val_main_v68_eq (F := Ideal) (StableHlo.launchContents m' c)
    simp only [StableHlo.launchContents_devRef, h0, h1, h2, h3, h4, h5, h6, h7, h8, h9, h10, h11, h12] at h
    exact h.trans (Cert.Back.result_eq m c _ _ _ _ _ _ _ _ _ _ _ _ _ rfl rfl rfl rfl rfl rfl rfl rfl rfl rfl rfl rfl rfl (hpre c)).symm

/-- The memory call's reference ends with its arguments unchanged; it declares no semaphore. -/
theorem frame_reference3 : quiescent_Reference3Ideal (hReference3Ideal := Cert.Reference3Ideal.Gen.facts) := fun m ρ _ =>
  (θ_run _ _ _).mono (fun r h => ⟨fun c => (h c).2.2, sem_eq_zero_of_no_sems (by decide) r.2⟩) (Cert.Reference3Ideal.Value.run (F := Ideal) m ρ)

/-- The memory call's keys and values are the reference's. -/
theorem algebraic3 : algebraic_Kernel3Ideal_Reference3Ideal := by
  pair_intro
  · run_from Cert.Kernel3Ideal.Value.run_blocks m g
  · run_from Cert.Reference3Ideal.Value.run m' g'
    · rw [Cert.Reference3Ideal.Read.val_main_v33_eq]
      exact (Cert.Mem.result_eq m c _ _ _ _ rfl rfl rfl rfl).1.symm
    · rw [Cert.Reference3Ideal.Read.val_main_v35_eq]
      exact (Cert.Mem.result_eq m c _ _ _ _ rfl rfl rfl rfl).2.symm

/-- Everything claimed: the frames, that the ideal pass changed nothing, and the equality of the results, of the three calls. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, Cert.Pre_finite_qk.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  trivial, algebraic, trivial, algebraic2, trivial, algebraic3⟩

end Cert.Proof

end
